-- ==== Defs.lean ====
def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateRefIdeal (m : (ℓ : Loc Cert.StateRefIdeal.nD Cert.StateRefIdeal.τ Cert.StateRefIdeal.sig) → Buf (Elt Ideal) ℓ) : Prop :=
  True

def Pre_Hyena (m : (ℓ : Loc Cert.Hyena.nD Cert.Hyena.τ Cert.Hyena.sig) → Buf (Elt Bits) ℓ) : Prop :=
  True

def Pre_HyenaIdeal (m : (ℓ : Loc Cert.HyenaIdeal.nD Cert.HyenaIdeal.τ Cert.HyenaIdeal.sig) → Buf (Elt Ideal) ℓ) : Prop :=
  True

def Pre_HyenaRefIdeal (m : (ℓ : Loc Cert.HyenaRefIdeal.nD Cert.HyenaRefIdeal.τ Cert.HyenaRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Gab (m : (ℓ : Loc Cert.Gab.nD Cert.Gab.τ Cert.Gab.sig) → Buf (Elt Bits) ℓ) : Prop :=
  True

def Pre_GabIdeal (m : (ℓ : Loc Cert.GabIdeal.nD Cert.GabIdeal.τ Cert.GabIdeal.sig) → Buf (Elt Ideal) ℓ) : Prop :=
  True

def Pre_GabRefIdeal (m : (ℓ : Loc Cert.GabRefIdeal.nD Cert.GabRefIdeal.τ Cert.GabRefIdeal.sig) → Buf (Elt Ideal) ℓ) : Prop :=
  True

def Pre_Og (m : (ℓ : Loc Cert.Og.nD Cert.Og.τ Cert.Og.sig) → Buf (Elt Bits) ℓ) : Prop :=
  True

def Pre_OgIdeal (m : (ℓ : Loc Cert.OgIdeal.nD Cert.OgIdeal.τ Cert.OgIdeal.sig) → Buf (Elt Ideal) ℓ) : Prop :=
  True

def Pre_OgRefIdeal (m : (ℓ : Loc Cert.OgRefIdeal.nD Cert.OgRefIdeal.τ Cert.OgRefIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValRefIdeal (m : (ℓ : Loc Cert.ValRefIdeal.nD Cert.ValRefIdeal.τ Cert.ValRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2)
      ∧ r.2.mem ((c.tc : Thread Cert.State.nD Cert.State.τ).loc Cert.State.main_arg3) = m ((c.tc : Thread Cert.State.nD Cert.State.τ).loc Cert.State.main_arg3)
      ∧ r.2.mem ((c.tc : Thread Cert.State.nD Cert.State.τ).loc Cert.State.main_arg4) = m ((c.tc : Thread Cert.State.nD Cert.State.τ).loc Cert.State.main_arg4)
      ∧ r.2.mem ((c.tc : Thread Cert.State.nD Cert.State.τ).loc Cert.State.main_arg5) = m ((c.tc : Thread Cert.State.nD Cert.State.τ).loc Cert.State.main_arg5)
      ∧ r.2.mem ((c.tc : Thread Cert.State.nD Cert.State.τ).loc Cert.State.main_arg6) = m ((c.tc : Thread Cert.State.nD Cert.State.τ).loc Cert.State.main_arg6)
      ∧ r.2.mem ((c.tc : Thread Cert.State.nD Cert.State.τ).loc Cert.State.main_arg7) = m ((c.tc : Thread Cert.State.nD Cert.State.τ).loc Cert.State.main_arg7))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
      ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
      ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
      ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
      ∧ r.2.mem ((c.tc : Thread Cert.StateIdeal.nD Cert.StateIdeal.τ).loc Cert.StateIdeal.main_arg7) = m ((c.tc : Thread Cert.StateIdeal.nD Cert.StateIdeal.τ).loc Cert.StateIdeal.main_arg7))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3)
      ∧ r.2.mem ((c.tc : Thread Cert.StateRefIdeal.nD Cert.StateRefIdeal.τ).loc Cert.StateRefIdeal.main_arg4) = m ((c.tc : Thread Cert.StateRefIdeal.nD Cert.StateRefIdeal.τ).loc Cert.StateRefIdeal.main_arg4)
      ∧ r.2.mem ((c.tc : Thread Cert.StateRefIdeal.nD Cert.StateRefIdeal.τ).loc Cert.StateRefIdeal.main_arg5) = m ((c.tc : Thread Cert.StateRefIdeal.nD Cert.StateRefIdeal.τ).loc Cert.StateRefIdeal.main_arg5)
      ∧ r.2.mem ((c.tc : Thread Cert.StateRefIdeal.nD Cert.StateRefIdeal.τ).loc Cert.StateRefIdeal.main_arg6) = m ((c.tc : Thread Cert.StateRefIdeal.nD Cert.StateRefIdeal.τ).loc Cert.StateRefIdeal.main_arg6)
      ∧ r.2.mem ((c.tc : Thread Cert.StateRefIdeal.nD Cert.StateRefIdeal.τ).loc Cert.StateRefIdeal.main_arg7) = m ((c.tc : Thread Cert.StateRefIdeal.nD Cert.StateRefIdeal.τ).loc Cert.StateRefIdeal.main_arg7))
      ∧ r.2.sem = fun _ => 0)

def quiescent_Hyena [hHyena : Cert.Hyena.Facts] : Prop :=
  ∀ (m : (ℓ : Loc Cert.Hyena.nD Cert.Hyena.τ Cert.Hyena.sig) → Buf (Elt Bits) ℓ) (g : Dev Cert.Hyena.nD → PrngReg), Pre_Hyena m →
    θ_run (Cert.Hyena.defs (F := Bits)) (onTc (τ := Cert.Hyena.τ) (Cert.Hyena.main (F := Bits))) ⟨m, fun _ => 0, g⟩ (fun r => (∀ c : Dev Cert.Hyena.nD,
      r.2.mem ((c.tc : Thread Cert.Hyena.nD Cert.Hyena.τ).loc Cert.Hyena.main_arg0) = m ((c.tc : Thread Cert.Hyena.nD Cert.Hyena.τ).loc Cert.Hyena.main_arg0)
      ∧ r.2.mem ((c.tc : Thread Cert.Hyena.nD Cert.Hyena.τ).loc Cert.Hyena.main_arg1) = m ((c.tc : Thread Cert.Hyena.nD Cert.Hyena.τ).loc Cert.Hyena.main_arg1)
      ∧ r.2.mem ((c.tc : Thread Cert.Hyena.nD Cert.Hyena.τ).loc Cert.Hyena.main_arg2) = m ((c.tc : Thread Cert.Hyena.nD Cert.Hyena.τ).loc Cert.Hyena.main_arg2)
      ∧ r.2.mem ((c.tc : Thread Cert.Hyena.nD Cert.Hyena.τ).loc Cert.Hyena.main_arg3) = m ((c.tc : Thread Cert.Hyena.nD Cert.Hyena.τ).loc Cert.Hyena.main_arg3)
      ∧ r.2.mem ((c.tc : Thread Cert.Hyena.nD Cert.Hyena.τ).loc Cert.Hyena.main_arg4) = m ((c.tc : Thread Cert.Hyena.nD Cert.Hyena.τ).loc Cert.Hyena.main_arg4))
      ∧ r.2.sem = fun _ => 0)

def quiescent_HyenaIdeal [hHyenaIdeal : Cert.HyenaIdeal.Facts] : Prop :=
  ∀ (m : (ℓ : Loc Cert.HyenaIdeal.nD Cert.HyenaIdeal.τ Cert.HyenaIdeal.sig) → Buf (Elt Ideal) ℓ) (g : Dev Cert.HyenaIdeal.nD → PrngReg), Pre_HyenaIdeal m →
    θ_run (Cert.HyenaIdeal.defs (F := Ideal)) (onTc (τ := Cert.HyenaIdeal.τ) (Cert.HyenaIdeal.main (F := Ideal))) ⟨m, fun _ => 0, g⟩ (fun r => (∀ c : Dev Cert.HyenaIdeal.nD,
      r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
      ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1)
      ∧ r.2.mem ((c.tc : Thread Cert.HyenaIdeal.nD Cert.HyenaIdeal.τ).loc Cert.HyenaIdeal.main_arg2) = m ((c.tc : Thread Cert.HyenaIdeal.nD Cert.HyenaIdeal.τ).loc Cert.HyenaIdeal.main_arg2)
      ∧ r.2.mem ((c.tc : Thread Cert.HyenaIdeal.nD Cert.HyenaIdeal.τ).loc Cert.HyenaIdeal.main_arg3) = m ((c.tc : Thread Cert.HyenaIdeal.nD Cert.HyenaIdeal.τ).loc Cert.HyenaIdeal.main_arg3)
      ∧ r.2.mem ((c.tc : Thread Cert.HyenaIdeal.nD Cert.HyenaIdeal.τ).loc Cert.HyenaIdeal.main_arg4) = m ((c.tc : Thread Cert.HyenaIdeal.nD Cert.HyenaIdeal.τ).loc Cert.HyenaIdeal.main_arg4))
      ∧ r.2.sem = fun _ => 0)

def quiescent_HyenaRefIdeal [hHyenaRefIdeal : Cert.HyenaRefIdeal.Facts] : Prop :=
  ∀ (m : (ℓ : Loc Cert.HyenaRefIdeal.nD Cert.HyenaRefIdeal.τ Cert.HyenaRefIdeal.sig) → Buf (Elt Ideal) ℓ) (g : Dev Cert.HyenaRefIdeal.nD → PrngReg), Pre_HyenaRefIdeal m →
    θ_run (Cert.HyenaRefIdeal.defs (F := Ideal)) (onTc (τ := Cert.HyenaRefIdeal.τ) (Cert.HyenaRefIdeal.main (F := Ideal))) ⟨m, fun _ => 0, g⟩ (fun r => (∀ c : Dev Cert.HyenaRefIdeal.nD,
      r.2.mem ((c.tc : Thread Cert.HyenaRefIdeal.nD Cert.HyenaRefIdeal.τ).loc Cert.HyenaRefIdeal.main_arg0) = m ((c.tc : Thread Cert.HyenaRefIdeal.nD Cert.HyenaRefIdeal.τ).loc Cert.HyenaRefIdeal.main_arg0)
      ∧ r.2.mem ((c.tc : Thread Cert.HyenaRefIdeal.nD Cert.HyenaRefIdeal.τ).loc Cert.HyenaRefIdeal.main_arg1) = m ((c.tc : Thread Cert.HyenaRefIdeal.nD Cert.HyenaRefIdeal.τ).loc Cert.HyenaRefIdeal.main_arg1)
      ∧ r.2.mem ((c.tc : Thread Cert.HyenaRefIdeal.nD Cert.HyenaRefIdeal.τ).loc Cert.HyenaRefIdeal.main_arg2) = m ((c.tc : Thread Cert.HyenaRefIdeal.nD Cert.HyenaRefIdeal.τ).loc Cert.HyenaRefIdeal.main_arg2)
      ∧ r.2.mem ((c.tc : Thread Cert.HyenaRefIdeal.nD Cert.HyenaRefIdeal.τ).loc Cert.HyenaRefIdeal.main_arg3) = m ((c.tc : Thread Cert.HyenaRefIdeal.nD Cert.HyenaRefIdeal.τ).loc Cert.HyenaRefIdeal.main_arg3)
      ∧ r.2.mem ((c.tc : Thread Cert.HyenaRefIdeal.nD Cert.HyenaRefIdeal.τ).loc Cert.HyenaRefIdeal.main_arg4) = m ((c.tc : Thread Cert.HyenaRefIdeal.nD Cert.HyenaRefIdeal.τ).loc Cert.HyenaRefIdeal.main_arg4))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4))
      ∧ r.2.sem = fun _ => 0)

def quiescent_Gab [hGab : Cert.Gab.Facts] : Prop :=
  ∀ (m : (ℓ : Loc Cert.Gab.nD Cert.Gab.τ Cert.Gab.sig) → Buf (Elt Bits) ℓ) (g : Dev Cert.Gab.nD → PrngReg), Pre_Gab m →
    θ_run (Cert.Gab.defs (F := Bits)) (onTc (τ := Cert.Gab.τ) (Cert.Gab.main (F := Bits))) ⟨m, fun _ => 0, g⟩ (fun r => (∀ c : Dev Cert.Gab.nD,
      r.2.mem ((c.tc : Thread Cert.Gab.nD Cert.Gab.τ).loc Cert.Gab.main_arg0) = m ((c.tc : Thread Cert.Gab.nD Cert.Gab.τ).loc Cert.Gab.main_arg0)
      ∧ r.2.mem ((c.tc : Thread Cert.Gab.nD Cert.Gab.τ).loc Cert.Gab.main_arg1) = m ((c.tc : Thread Cert.Gab.nD Cert.Gab.τ).loc Cert.Gab.main_arg1)
      ∧ r.2.mem ((c.tc : Thread Cert.Gab.nD Cert.Gab.τ).loc Cert.Gab.main_arg2) = m ((c.tc : Thread Cert.Gab.nD Cert.Gab.τ).loc Cert.Gab.main_arg2))
      ∧ r.2.sem = fun _ => 0)

def quiescent_GabIdeal [hGabIdeal : Cert.GabIdeal.Facts] : Prop :=
  ∀ (m : (ℓ : Loc Cert.GabIdeal.nD Cert.GabIdeal.τ Cert.GabIdeal.sig) → Buf (Elt Ideal) ℓ) (g : Dev Cert.GabIdeal.nD → PrngReg), Pre_GabIdeal m →
    θ_run (Cert.GabIdeal.defs (F := Ideal)) (onTc (τ := Cert.GabIdeal.τ) (Cert.GabIdeal.main (F := Ideal))) ⟨m, fun _ => 0, g⟩ (fun r => (∀ c : Dev Cert.GabIdeal.nD,
      r.2.mem ((c.tc : Thread Cert.GabIdeal.nD Cert.GabIdeal.τ).loc Cert.GabIdeal.main_arg0) = m ((c.tc : Thread Cert.GabIdeal.nD Cert.GabIdeal.τ).loc Cert.GabIdeal.main_arg0)
      ∧ r.2.mem ((c.tc : Thread Cert.GabIdeal.nD Cert.GabIdeal.τ).loc Cert.GabIdeal.main_arg1) = m ((c.tc : Thread Cert.GabIdeal.nD Cert.GabIdeal.τ).loc Cert.GabIdeal.main_arg1)
      ∧ r.2.mem ((c.tc : Thread Cert.GabIdeal.nD Cert.GabIdeal.τ).loc Cert.GabIdeal.main_arg2) = m ((c.tc : Thread Cert.GabIdeal.nD Cert.GabIdeal.τ).loc Cert.GabIdeal.main_arg2))
      ∧ r.2.sem = fun _ => 0)

def quiescent_GabRefIdeal [hGabRefIdeal : Cert.GabRefIdeal.Facts] : Prop :=
  ∀ (m : (ℓ : Loc Cert.GabRefIdeal.nD Cert.GabRefIdeal.τ Cert.GabRefIdeal.sig) → Buf (Elt Ideal) ℓ) (g : Dev Cert.GabRefIdeal.nD → PrngReg), Pre_GabRefIdeal m →
    θ_run (Cert.GabRefIdeal.defs (F := Ideal)) (onTc (τ := Cert.GabRefIdeal.τ) (Cert.GabRefIdeal.main (F := Ideal))) ⟨m, fun _ => 0, g⟩ (fun r => (∀ c : Dev Cert.GabRefIdeal.nD,
      r.2.mem ((c.tc : Thread Cert.GabRefIdeal.nD Cert.GabRefIdeal.τ).loc Cert.GabRefIdeal.main_arg0) = m ((c.tc : Thread Cert.GabRefIdeal.nD Cert.GabRefIdeal.τ).loc Cert.GabRefIdeal.main_arg0)
      ∧ r.2.mem ((c.tc : Thread Cert.GabRefIdeal.nD Cert.GabRefIdeal.τ).loc Cert.GabRefIdeal.main_arg1) = m ((c.tc : Thread Cert.GabRefIdeal.nD Cert.GabRefIdeal.τ).loc Cert.GabRefIdeal.main_arg1)
      ∧ r.2.mem ((c.tc : Thread Cert.GabRefIdeal.nD Cert.GabRefIdeal.τ).loc Cert.GabRefIdeal.main_arg2) = m ((c.tc : Thread Cert.GabRefIdeal.nD Cert.GabRefIdeal.τ).loc Cert.GabRefIdeal.main_arg2))
      ∧ r.2.sem = fun _ => 0)

def quiescent_Og [hOg : Cert.Og.Facts] : Prop :=
  ∀ (m : (ℓ : Loc Cert.Og.nD Cert.Og.τ Cert.Og.sig) → Buf (Elt Bits) ℓ) (g : Dev Cert.Og.nD → PrngReg), Pre_Og m →
    θ_run (Cert.Og.defs (F := Bits)) (onTc (τ := Cert.Og.τ) (Cert.Og.main (F := Bits))) ⟨m, fun _ => 0, g⟩ (fun r => (∀ c : Dev Cert.Og.nD,
      r.2.mem ((c.tc : Thread Cert.Og.nD Cert.Og.τ).loc Cert.Og.main_arg0) = m ((c.tc : Thread Cert.Og.nD Cert.Og.τ).loc Cert.Og.main_arg0)
      ∧ r.2.mem ((c.tc : Thread Cert.Og.nD Cert.Og.τ).loc Cert.Og.main_arg1) = m ((c.tc : Thread Cert.Og.nD Cert.Og.τ).loc Cert.Og.main_arg1)
      ∧ r.2.mem ((c.tc : Thread Cert.Og.nD Cert.Og.τ).loc Cert.Og.main_arg2) = m ((c.tc : Thread Cert.Og.nD Cert.Og.τ).loc Cert.Og.main_arg2))
      ∧ r.2.sem = fun _ => 0)

def quiescent_OgIdeal [hOgIdeal : Cert.OgIdeal.Facts] : Prop :=
  ∀ (m : (ℓ : Loc Cert.OgIdeal.nD Cert.OgIdeal.τ Cert.OgIdeal.sig) → Buf (Elt Ideal) ℓ) (g : Dev Cert.OgIdeal.nD → PrngReg), Pre_OgIdeal m →
    θ_run (Cert.OgIdeal.defs (F := Ideal)) (onTc (τ := Cert.OgIdeal.τ) (Cert.OgIdeal.main (F := Ideal))) ⟨m, fun _ => 0, g⟩ (fun r => (∀ c : Dev Cert.OgIdeal.nD,
      r.2.mem ((c.tc : Thread Cert.OgIdeal.nD Cert.OgIdeal.τ).loc Cert.OgIdeal.main_arg0) = m ((c.tc : Thread Cert.OgIdeal.nD Cert.OgIdeal.τ).loc Cert.OgIdeal.main_arg0)
      ∧ r.2.mem ((c.tc : Thread Cert.OgIdeal.nD Cert.OgIdeal.τ).loc Cert.OgIdeal.main_arg1) = m ((c.tc : Thread Cert.OgIdeal.nD Cert.OgIdeal.τ).loc Cert.OgIdeal.main_arg1)
      ∧ r.2.mem ((c.tc : Thread Cert.OgIdeal.nD Cert.OgIdeal.τ).loc Cert.OgIdeal.main_arg2) = m ((c.tc : Thread Cert.OgIdeal.nD Cert.OgIdeal.τ).loc Cert.OgIdeal.main_arg2))
      ∧ r.2.sem = fun _ => 0)

def quiescent_OgRefIdeal [hOgRefIdeal : Cert.OgRefIdeal.Facts] : Prop :=
  ∀ (m : (ℓ : Loc Cert.OgRefIdeal.nD Cert.OgRefIdeal.τ Cert.OgRefIdeal.sig) → Buf (Elt Ideal) ℓ) (g : Dev Cert.OgRefIdeal.nD → PrngReg), Pre_OgRefIdeal m →
    θ_run (Cert.OgRefIdeal.defs (F := Ideal)) (onTc (τ := Cert.OgRefIdeal.τ) (Cert.OgRefIdeal.main (F := Ideal))) ⟨m, fun _ => 0, g⟩ (fun r => (∀ c : Dev Cert.OgRefIdeal.nD,
      r.2.mem ((c.tc : Thread Cert.OgRefIdeal.nD Cert.OgRefIdeal.τ).loc Cert.OgRefIdeal.main_arg0) = m ((c.tc : Thread Cert.OgRefIdeal.nD Cert.OgRefIdeal.τ).loc Cert.OgRefIdeal.main_arg0)
      ∧ r.2.mem ((c.tc : Thread Cert.OgRefIdeal.nD Cert.OgRefIdeal.τ).loc Cert.OgRefIdeal.main_arg1) = m ((c.tc : Thread Cert.OgRefIdeal.nD Cert.OgRefIdeal.τ).loc Cert.OgRefIdeal.main_arg1)
      ∧ r.2.mem ((c.tc : Thread Cert.OgRefIdeal.nD Cert.OgRefIdeal.τ).loc Cert.OgRefIdeal.main_arg2) = m ((c.tc : Thread Cert.OgRefIdeal.nD Cert.OgRefIdeal.τ).loc Cert.OgRefIdeal.main_arg2))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1)
      ∧ r.2.mem ((c.tc : Thread Cert.Val.nD Cert.Val.τ).loc Cert.Val.main_arg2) = m ((c.tc : Thread Cert.Val.nD Cert.Val.τ).loc Cert.Val.main_arg2))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
      ∧ r.2.mem ((c.tc : Thread Cert.ValIdeal.nD Cert.ValIdeal.τ).loc Cert.ValIdeal.main_arg2) = m ((c.tc : Thread Cert.ValIdeal.nD Cert.ValIdeal.τ).loc Cert.ValIdeal.main_arg2))
      ∧ r.2.sem = fun _ => 0)

def quiescent_ValRefIdeal [hValRefIdeal : Cert.ValRefIdeal.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1)
      ∧ r.2.mem ((c.tc : Thread Cert.ValRefIdeal.nD Cert.ValRefIdeal.τ).loc Cert.ValRefIdeal.main_arg2) = m ((c.tc : Thread Cert.ValRefIdeal.nD Cert.ValRefIdeal.τ).loc Cert.ValRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def preserves_State_StateIdeal : Prop :=
  True

def algebraic_StateIdeal_StateRefIdeal [hStateIdeal : Cert.StateIdeal.Facts] [hStateRefIdeal : Cert.StateRefIdeal.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)
      ∧ m' ((c.tc : Thread Cert.StateRefIdeal.nD Cert.StateRefIdeal.τ).loc Cert.StateRefIdeal.main_arg3) = m ((c.tc : Thread Cert.StateIdeal.nD Cert.StateIdeal.τ).loc Cert.StateIdeal.main_arg3)
      ∧ m' ((c.tc : Thread Cert.StateRefIdeal.nD Cert.StateRefIdeal.τ).loc Cert.StateRefIdeal.main_arg4) = m ((c.tc : Thread Cert.StateIdeal.nD Cert.StateIdeal.τ).loc Cert.StateIdeal.main_arg4)
      ∧ m' ((c.tc : Thread Cert.StateRefIdeal.nD Cert.StateRefIdeal.τ).loc Cert.StateRefIdeal.main_arg5) = m ((c.tc : Thread Cert.StateIdeal.nD Cert.StateIdeal.τ).loc Cert.StateIdeal.main_arg5)
      ∧ m' ((c.tc : Thread Cert.StateRefIdeal.nD Cert.StateRefIdeal.τ).loc Cert.StateRefIdeal.main_arg6) = m ((c.tc : Thread Cert.StateIdeal.nD Cert.StateIdeal.τ).loc Cert.StateIdeal.main_arg6)
      ∧ m' ((c.tc : Thread Cert.StateRefIdeal.nD Cert.StateRefIdeal.τ).loc Cert.StateRefIdeal.main_arg7) = m ((c.tc : Thread Cert.StateIdeal.nD Cert.StateIdeal.τ).loc Cert.StateIdeal.main_arg7)) →
    ∃ (v0 : (c : Dev Cert.StateIdeal.nD) → Buf (Elt Ideal) ((c.tc : Thread Cert.StateIdeal.nD Cert.StateIdeal.τ).loc Cert.StateIdeal.main_v0_0)) (v1 : (c : Dev Cert.StateIdeal.nD) → Buf (Elt Ideal) ((c.tc : Thread Cert.StateIdeal.nD Cert.StateIdeal.τ).loc Cert.StateIdeal.main_v0_1)) (v2 : (c : Dev Cert.StateIdeal.nD) → Buf (Elt Ideal) ((c.tc : Thread Cert.StateIdeal.nD Cert.StateIdeal.τ).loc Cert.StateIdeal.main_v0_2)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v0_0) = v0 c
          ∧ r.2.mem ((c.tc : Thread Cert.StateIdeal.nD Cert.StateIdeal.τ).loc Cert.StateIdeal.main_v0_1) = v1 c
          ∧ r.2.mem ((c.tc : Thread Cert.StateIdeal.nD Cert.StateIdeal.τ).loc Cert.StateIdeal.main_v0_2) = v2 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
          ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
          ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
          ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
          ∧ r.2.mem ((c.tc : Thread Cert.StateIdeal.nD Cert.StateIdeal.τ).loc Cert.StateIdeal.main_arg7) = m ((c.tc : Thread Cert.StateIdeal.nD Cert.StateIdeal.τ).loc Cert.StateIdeal.main_arg7))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v60) = v0 c
          ∧ r.2.mem ((c.tc : Thread Cert.StateRefIdeal.nD Cert.StateRefIdeal.τ).loc Cert.StateRefIdeal.main_v70) = v1 c
          ∧ r.2.mem ((c.tc : Thread Cert.StateRefIdeal.nD Cert.StateRefIdeal.τ).loc Cert.StateRefIdeal.main_v72) = v2 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2)
          ∧ r.2.mem ((c.tc : Thread Cert.StateRefIdeal.nD Cert.StateRefIdeal.τ).loc Cert.StateRefIdeal.main_arg3) = m' ((c.tc : Thread Cert.StateRefIdeal.nD Cert.StateRefIdeal.τ).loc Cert.StateRefIdeal.main_arg3)
          ∧ r.2.mem ((c.tc : Thread Cert.StateRefIdeal.nD Cert.StateRefIdeal.τ).loc Cert.StateRefIdeal.main_arg4) = m' ((c.tc : Thread Cert.StateRefIdeal.nD Cert.StateRefIdeal.τ).loc Cert.StateRefIdeal.main_arg4)
          ∧ r.2.mem ((c.tc : Thread Cert.StateRefIdeal.nD Cert.StateRefIdeal.τ).loc Cert.StateRefIdeal.main_arg5) = m' ((c.tc : Thread Cert.StateRefIdeal.nD Cert.StateRefIdeal.τ).loc Cert.StateRefIdeal.main_arg5)
          ∧ r.2.mem ((c.tc : Thread Cert.StateRefIdeal.nD Cert.StateRefIdeal.τ).loc Cert.StateRefIdeal.main_arg6) = m' ((c.tc : Thread Cert.StateRefIdeal.nD Cert.StateRefIdeal.τ).loc Cert.StateRefIdeal.main_arg6)
          ∧ r.2.mem ((c.tc : Thread Cert.StateRefIdeal.nD Cert.StateRefIdeal.τ).loc Cert.StateRefIdeal.main_arg7) = m' ((c.tc : Thread Cert.StateRefIdeal.nD Cert.StateRefIdeal.τ).loc Cert.StateRefIdeal.main_arg7))

def preserves_Hyena_HyenaIdeal : Prop :=
  True

def algebraic_HyenaIdeal_HyenaRefIdeal [hHyenaIdeal : Cert.HyenaIdeal.Facts] [hHyenaRefIdeal : Cert.HyenaRefIdeal.Facts] : Prop :=
  ∀ (m : (ℓ : Loc Cert.HyenaIdeal.nD Cert.HyenaIdeal.τ Cert.HyenaIdeal.sig) → Buf (Elt Ideal) ℓ) (g : Dev Cert.HyenaIdeal.nD → PrngReg)
    (m' : (ℓ : Loc Cert.HyenaRefIdeal.nD Cert.HyenaRefIdeal.τ Cert.HyenaRefIdeal.sig) → Buf (Elt Ideal) ℓ) (g' : Dev Cert.HyenaRefIdeal.nD → PrngReg), Pre_HyenaIdeal m →
    (∀ c : Dev Cert.HyenaIdeal.nD,
      m' ((c.tc : Thread Cert.HyenaRefIdeal.nD Cert.HyenaRefIdeal.τ).loc Cert.HyenaRefIdeal.main_arg0) = m ((c.tc : Thread Cert.HyenaIdeal.nD Cert.HyenaIdeal.τ).loc Cert.HyenaIdeal.main_arg0)
      ∧ m' ((c.tc : Thread Cert.HyenaRefIdeal.nD Cert.HyenaRefIdeal.τ).loc Cert.HyenaRefIdeal.main_arg1) = m ((c.tc : Thread Cert.HyenaIdeal.nD Cert.HyenaIdeal.τ).loc Cert.HyenaIdeal.main_arg1)
      ∧ m' ((c.tc : Thread Cert.HyenaRefIdeal.nD Cert.HyenaRefIdeal.τ).loc Cert.HyenaRefIdeal.main_arg2) = m ((c.tc : Thread Cert.HyenaIdeal.nD Cert.HyenaIdeal.τ).loc Cert.HyenaIdeal.main_arg2)
      ∧ m' ((c.tc : Thread Cert.HyenaRefIdeal.nD Cert.HyenaRefIdeal.τ).loc Cert.HyenaRefIdeal.main_arg3) = m ((c.tc : Thread Cert.HyenaIdeal.nD Cert.HyenaIdeal.τ).loc Cert.HyenaIdeal.main_arg3)
      ∧ m' ((c.tc : Thread Cert.HyenaRefIdeal.nD Cert.HyenaRefIdeal.τ).loc Cert.HyenaRefIdeal.main_arg4) = m ((c.tc : Thread Cert.HyenaIdeal.nD Cert.HyenaIdeal.τ).loc Cert.HyenaIdeal.main_arg4)) →
    ∃ (v0 : (c : Dev Cert.HyenaIdeal.nD) → Buf (Elt Ideal) ((c.tc : Thread Cert.HyenaIdeal.nD Cert.HyenaIdeal.τ).loc Cert.HyenaIdeal.main_v7_0)) (v1 : (c : Dev Cert.HyenaIdeal.nD) → Buf (Elt Ideal) ((c.tc : Thread Cert.HyenaIdeal.nD Cert.HyenaIdeal.τ).loc Cert.HyenaIdeal.main_v7_1)),
      θ_run (Cert.HyenaIdeal.defs (F := Ideal)) (onTc (τ := Cert.HyenaIdeal.τ) (Cert.HyenaIdeal.main (F := Ideal))) ⟨m, fun _ => 0, g⟩ (fun r => ∀ c : Dev Cert.HyenaIdeal.nD,
          r.2.mem ((c.tc : Thread Cert.HyenaIdeal.nD Cert.HyenaIdeal.τ).loc Cert.HyenaIdeal.main_v7_0) = v0 c
          ∧ r.2.mem ((c.tc : Thread Cert.HyenaIdeal.nD Cert.HyenaIdeal.τ).loc Cert.HyenaIdeal.main_v7_1) = v1 c
          ∧ r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
          ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1)
          ∧ r.2.mem ((c.tc : Thread Cert.HyenaIdeal.nD Cert.HyenaIdeal.τ).loc Cert.HyenaIdeal.main_arg2) = m ((c.tc : Thread Cert.HyenaIdeal.nD Cert.HyenaIdeal.τ).loc Cert.HyenaIdeal.main_arg2)
          ∧ r.2.mem ((c.tc : Thread Cert.HyenaIdeal.nD Cert.HyenaIdeal.τ).loc Cert.HyenaIdeal.main_arg3) = m ((c.tc : Thread Cert.HyenaIdeal.nD Cert.HyenaIdeal.τ).loc Cert.HyenaIdeal.main_arg3)
          ∧ r.2.mem ((c.tc : Thread Cert.HyenaIdeal.nD Cert.HyenaIdeal.τ).loc Cert.HyenaIdeal.main_arg4) = m ((c.tc : Thread Cert.HyenaIdeal.nD Cert.HyenaIdeal.τ).loc Cert.HyenaIdeal.main_arg4))
      ∧ θ_run (Cert.HyenaRefIdeal.defs (F := Ideal)) (onTc (τ := Cert.HyenaRefIdeal.τ) (Cert.HyenaRefIdeal.main (F := Ideal))) ⟨m', fun _ => 0, g'⟩ (fun r => ∀ c : Dev Cert.HyenaRefIdeal.nD,
          r.2.mem ((c.tc : Thread Cert.HyenaRefIdeal.nD Cert.HyenaRefIdeal.τ).loc Cert.HyenaRefIdeal.main_v35) = v0 c
          ∧ r.2.mem ((c.tc : Thread Cert.HyenaRefIdeal.nD Cert.HyenaRefIdeal.τ).loc Cert.HyenaRefIdeal.main_v36) = v1 c
          ∧ r.2.mem ((c.tc : Thread Cert.HyenaRefIdeal.nD Cert.HyenaRefIdeal.τ).loc Cert.HyenaRefIdeal.main_arg0) = m' ((c.tc : Thread Cert.HyenaRefIdeal.nD Cert.HyenaRefIdeal.τ).loc Cert.HyenaRefIdeal.main_arg0)
          ∧ r.2.mem ((c.tc : Thread Cert.HyenaRefIdeal.nD Cert.HyenaRefIdeal.τ).loc Cert.HyenaRefIdeal.main_arg1) = m' ((c.tc : Thread Cert.HyenaRefIdeal.nD Cert.HyenaRefIdeal.τ).loc Cert.HyenaRefIdeal.main_arg1)
          ∧ r.2.mem ((c.tc : Thread Cert.HyenaRefIdeal.nD Cert.HyenaRefIdeal.τ).loc Cert.HyenaRefIdeal.main_arg2) = m' ((c.tc : Thread Cert.HyenaRefIdeal.nD Cert.HyenaRefIdeal.τ).loc Cert.HyenaRefIdeal.main_arg2)
          ∧ r.2.mem ((c.tc : Thread Cert.HyenaRefIdeal.nD Cert.HyenaRefIdeal.τ).loc Cert.HyenaRefIdeal.main_arg3) = m' ((c.tc : Thread Cert.HyenaRefIdeal.nD Cert.HyenaRefIdeal.τ).loc Cert.HyenaRefIdeal.main_arg3)
          ∧ r.2.mem ((c.tc : Thread Cert.HyenaRefIdeal.nD Cert.HyenaRefIdeal.τ).loc Cert.HyenaRefIdeal.main_arg4) = m' ((c.tc : Thread Cert.HyenaRefIdeal.nD Cert.HyenaRefIdeal.τ).loc Cert.HyenaRefIdeal.main_arg4))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)
      ∧ m' ((c.tc : Thread Cert.QkRefIdeal.nD Cert.QkRefIdeal.τ).loc Cert.QkRefIdeal.main_arg4) = m ((c.tc : Thread Cert.QkIdeal.nD Cert.QkIdeal.τ).loc Cert.QkIdeal.main_arg4)) →
    ∃ (v0 : (c : Dev Cert.QkIdeal.nD) → Buf (Elt Ideal) ((c.tc : Thread Cert.QkIdeal.nD Cert.QkIdeal.τ).loc Cert.QkIdeal.main_v9)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v9) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v38) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3)
          ∧ r.2.mem ((c.tc : Thread Cert.QkRefIdeal.nD Cert.QkRefIdeal.τ).loc Cert.QkRefIdeal.main_arg4) = m' ((c.tc : Thread Cert.QkRefIdeal.nD Cert.QkRefIdeal.τ).loc Cert.QkRefIdeal.main_arg4))

def preserves_Gab_GabIdeal : Prop :=
  True

def algebraic_GabIdeal_GabRefIdeal [hGabIdeal : Cert.GabIdeal.Facts] [hGabRefIdeal : Cert.GabRefIdeal.Facts] : Prop :=
  ∀ (m : (ℓ : Loc Cert.GabIdeal.nD Cert.GabIdeal.τ Cert.GabIdeal.sig) → Buf (Elt Ideal) ℓ) (g : Dev Cert.GabIdeal.nD → PrngReg)
    (m' : (ℓ : Loc Cert.GabRefIdeal.nD Cert.GabRefIdeal.τ Cert.GabRefIdeal.sig) → Buf (Elt Ideal) ℓ) (g' : Dev Cert.GabRefIdeal.nD → PrngReg), Pre_GabIdeal m →
    (∀ c : Dev Cert.GabIdeal.nD,
      m' ((c.tc : Thread Cert.GabRefIdeal.nD Cert.GabRefIdeal.τ).loc Cert.GabRefIdeal.main_arg0) = m ((c.tc : Thread Cert.GabIdeal.nD Cert.GabIdeal.τ).loc Cert.GabIdeal.main_arg0)
      ∧ m' ((c.tc : Thread Cert.GabRefIdeal.nD Cert.GabRefIdeal.τ).loc Cert.GabRefIdeal.main_arg1) = m ((c.tc : Thread Cert.GabIdeal.nD Cert.GabIdeal.τ).loc Cert.GabIdeal.main_arg1)
      ∧ m' ((c.tc : Thread Cert.GabRefIdeal.nD Cert.GabRefIdeal.τ).loc Cert.GabRefIdeal.main_arg2) = m ((c.tc : Thread Cert.GabIdeal.nD Cert.GabIdeal.τ).loc Cert.GabIdeal.main_arg2)) →
    ∃ (v0 : (c : Dev Cert.GabIdeal.nD) → Buf (Elt Ideal) ((c.tc : Thread Cert.GabIdeal.nD Cert.GabIdeal.τ).loc Cert.GabIdeal.main_v4)),
      θ_run (Cert.GabIdeal.defs (F := Ideal)) (onTc (τ := Cert.GabIdeal.τ) (Cert.GabIdeal.main (F := Ideal))) ⟨m, fun _ => 0, g⟩ (fun r => ∀ c : Dev Cert.GabIdeal.nD,
          r.2.mem ((c.tc : Thread Cert.GabIdeal.nD Cert.GabIdeal.τ).loc Cert.GabIdeal.main_v4) = v0 c
          ∧ r.2.mem ((c.tc : Thread Cert.GabIdeal.nD Cert.GabIdeal.τ).loc Cert.GabIdeal.main_arg0) = m ((c.tc : Thread Cert.GabIdeal.nD Cert.GabIdeal.τ).loc Cert.GabIdeal.main_arg0)
          ∧ r.2.mem ((c.tc : Thread Cert.GabIdeal.nD Cert.GabIdeal.τ).loc Cert.GabIdeal.main_arg1) = m ((c.tc : Thread Cert.GabIdeal.nD Cert.GabIdeal.τ).loc Cert.GabIdeal.main_arg1)
          ∧ r.2.mem ((c.tc : Thread Cert.GabIdeal.nD Cert.GabIdeal.τ).loc Cert.GabIdeal.main_arg2) = m ((c.tc : Thread Cert.GabIdeal.nD Cert.GabIdeal.τ).loc Cert.GabIdeal.main_arg2))
      ∧ θ_run (Cert.GabRefIdeal.defs (F := Ideal)) (onTc (τ := Cert.GabRefIdeal.τ) (Cert.GabRefIdeal.main (F := Ideal))) ⟨m', fun _ => 0, g'⟩ (fun r => ∀ c : Dev Cert.GabRefIdeal.nD,
          r.2.mem ((c.tc : Thread Cert.GabRefIdeal.nD Cert.GabRefIdeal.τ).loc Cert.GabRefIdeal.main_v20) = v0 c
          ∧ r.2.mem ((c.tc : Thread Cert.GabRefIdeal.nD Cert.GabRefIdeal.τ).loc Cert.GabRefIdeal.main_arg0) = m' ((c.tc : Thread Cert.GabRefIdeal.nD Cert.GabRefIdeal.τ).loc Cert.GabRefIdeal.main_arg0)
          ∧ r.2.mem ((c.tc : Thread Cert.GabRefIdeal.nD Cert.GabRefIdeal.τ).loc Cert.GabRefIdeal.main_arg1) = m' ((c.tc : Thread Cert.GabRefIdeal.nD Cert.GabRefIdeal.τ).loc Cert.GabRefIdeal.main_arg1)
          ∧ r.2.mem ((c.tc : Thread Cert.GabRefIdeal.nD Cert.GabRefIdeal.τ).loc Cert.GabRefIdeal.main_arg2) = m' ((c.tc : Thread Cert.GabRefIdeal.nD Cert.GabRefIdeal.τ).loc Cert.GabRefIdeal.main_arg2))

def preserves_Og_OgIdeal : Prop :=
  True

def algebraic_OgIdeal_OgRefIdeal [hOgIdeal : Cert.OgIdeal.Facts] [hOgRefIdeal : Cert.OgRefIdeal.Facts] : Prop :=
  ∀ (m : (ℓ : Loc Cert.OgIdeal.nD Cert.OgIdeal.τ Cert.OgIdeal.sig) → Buf (Elt Ideal) ℓ) (g : Dev Cert.OgIdeal.nD → PrngReg)
    (m' : (ℓ : Loc Cert.OgRefIdeal.nD Cert.OgRefIdeal.τ Cert.OgRefIdeal.sig) → Buf (Elt Ideal) ℓ) (g' : Dev Cert.OgRefIdeal.nD → PrngReg), Pre_OgIdeal m →
    (∀ c : Dev Cert.OgIdeal.nD,
      m' ((c.tc : Thread Cert.OgRefIdeal.nD Cert.OgRefIdeal.τ).loc Cert.OgRefIdeal.main_arg0) = m ((c.tc : Thread Cert.OgIdeal.nD Cert.OgIdeal.τ).loc Cert.OgIdeal.main_arg0)
      ∧ m' ((c.tc : Thread Cert.OgRefIdeal.nD Cert.OgRefIdeal.τ).loc Cert.OgRefIdeal.main_arg1) = m ((c.tc : Thread Cert.OgIdeal.nD Cert.OgIdeal.τ).loc Cert.OgIdeal.main_arg1)
      ∧ m' ((c.tc : Thread Cert.OgRefIdeal.nD Cert.OgRefIdeal.τ).loc Cert.OgRefIdeal.main_arg2) = m ((c.tc : Thread Cert.OgIdeal.nD Cert.OgIdeal.τ).loc Cert.OgIdeal.main_arg2)) →
    ∃ (v0 : (c : Dev Cert.OgIdeal.nD) → Buf (Elt Ideal) ((c.tc : Thread Cert.OgIdeal.nD Cert.OgIdeal.τ).loc Cert.OgIdeal.main_v4)),
      θ_run (Cert.OgIdeal.defs (F := Ideal)) (onTc (τ := Cert.OgIdeal.τ) (Cert.OgIdeal.main (F := Ideal))) ⟨m, fun _ => 0, g⟩ (fun r => ∀ c : Dev Cert.OgIdeal.nD,
          r.2.mem ((c.tc : Thread Cert.OgIdeal.nD Cert.OgIdeal.τ).loc Cert.OgIdeal.main_v4) = v0 c
          ∧ r.2.mem ((c.tc : Thread Cert.OgIdeal.nD Cert.OgIdeal.τ).loc Cert.OgIdeal.main_arg0) = m ((c.tc : Thread Cert.OgIdeal.nD Cert.OgIdeal.τ).loc Cert.OgIdeal.main_arg0)
          ∧ r.2.mem ((c.tc : Thread Cert.OgIdeal.nD Cert.OgIdeal.τ).loc Cert.OgIdeal.main_arg1) = m ((c.tc : Thread Cert.OgIdeal.nD Cert.OgIdeal.τ).loc Cert.OgIdeal.main_arg1)
          ∧ r.2.mem ((c.tc : Thread Cert.OgIdeal.nD Cert.OgIdeal.τ).loc Cert.OgIdeal.main_arg2) = m ((c.tc : Thread Cert.OgIdeal.nD Cert.OgIdeal.τ).loc Cert.OgIdeal.main_arg2))
      ∧ θ_run (Cert.OgRefIdeal.defs (F := Ideal)) (onTc (τ := Cert.OgRefIdeal.τ) (Cert.OgRefIdeal.main (F := Ideal))) ⟨m', fun _ => 0, g'⟩ (fun r => ∀ c : Dev Cert.OgRefIdeal.nD,
          r.2.mem ((c.tc : Thread Cert.OgRefIdeal.nD Cert.OgRefIdeal.τ).loc Cert.OgRefIdeal.main_v12) = v0 c
          ∧ r.2.mem ((c.tc : Thread Cert.OgRefIdeal.nD Cert.OgRefIdeal.τ).loc Cert.OgRefIdeal.main_arg0) = m' ((c.tc : Thread Cert.OgRefIdeal.nD Cert.OgRefIdeal.τ).loc Cert.OgRefIdeal.main_arg0)
          ∧ r.2.mem ((c.tc : Thread Cert.OgRefIdeal.nD Cert.OgRefIdeal.τ).loc Cert.OgRefIdeal.main_arg1) = m' ((c.tc : Thread Cert.OgRefIdeal.nD Cert.OgRefIdeal.τ).loc Cert.OgRefIdeal.main_arg1)
          ∧ r.2.mem ((c.tc : Thread Cert.OgRefIdeal.nD Cert.OgRefIdeal.τ).loc Cert.OgRefIdeal.main_arg2) = m' ((c.tc : Thread Cert.OgRefIdeal.nD Cert.OgRefIdeal.τ).loc Cert.OgRefIdeal.main_arg2))

def preserves_Val_ValIdeal : Prop :=
  True

def algebraic_ValIdeal_ValRefIdeal [hValIdeal : Cert.ValIdeal.Facts] [hValRefIdeal : Cert.ValRefIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValRefIdeal.nD Cert.ValRefIdeal.τ Cert.ValRefIdeal.sig) → Buf (Elt Ideal) ℓ) (g' : Dev Cert.ValRefIdeal.nD → PrngReg), Pre_ValIdeal m →
    (∀ c : Dev Cert.ValIdeal.nD,
      m' ((c.tc : Thread Cert.ValRefIdeal.nD Cert.ValRefIdeal.τ).loc Cert.ValRefIdeal.main_arg0) = m ((c.tc : Thread Cert.ValIdeal.nD Cert.ValIdeal.τ).loc Cert.ValIdeal.main_arg0)
      ∧ m' ((c.tc : Thread Cert.ValRefIdeal.nD Cert.ValRefIdeal.τ).loc Cert.ValRefIdeal.main_arg1) = m ((c.tc : Thread Cert.ValIdeal.nD Cert.ValIdeal.τ).loc Cert.ValIdeal.main_arg1)
      ∧ m' ((c.tc : Thread Cert.ValRefIdeal.nD Cert.ValRefIdeal.τ).loc Cert.ValRefIdeal.main_arg2) = m ((c.tc : Thread Cert.ValIdeal.nD Cert.ValIdeal.τ).loc Cert.ValIdeal.main_arg2)) →
    ∃ (v0 : (c : Dev Cert.ValIdeal.nD) → Buf (Elt Ideal) ((c.tc : Thread Cert.ValIdeal.nD Cert.ValIdeal.τ).loc Cert.ValIdeal.main_v4)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v4) = v0 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
          ∧ r.2.mem ((c.tc : Thread Cert.ValIdeal.nD Cert.ValIdeal.τ).loc Cert.ValIdeal.main_arg2) = m ((c.tc : Thread Cert.ValIdeal.nD Cert.ValIdeal.τ).loc Cert.ValIdeal.main_arg2))
      ∧ θ_run (Cert.ValRefIdeal.defs (F := Ideal)) (onTc (τ := Cert.ValRefIdeal.τ) (Cert.ValRefIdeal.main (F := Ideal))) ⟨m', fun _ => 0, g'⟩ (fun r => ∀ c : Dev Cert.ValRefIdeal.nD,
          r.2.mem ((c.tc : Thread Cert.ValRefIdeal.nD Cert.ValRefIdeal.τ).loc Cert.ValRefIdeal.main_v6) = v0 c
          ∧ r.2.mem ((c.tc : Thread Cert.ValRefIdeal.nD Cert.ValRefIdeal.τ).loc Cert.ValRefIdeal.main_arg0) = m' ((c.tc : Thread Cert.ValRefIdeal.nD Cert.ValRefIdeal.τ).loc Cert.ValRefIdeal.main_arg0)
          ∧ r.2.mem ((c.tc : Thread Cert.ValRefIdeal.nD Cert.ValRefIdeal.τ).loc Cert.ValRefIdeal.main_arg1) = m' ((c.tc : Thread Cert.ValRefIdeal.nD Cert.ValRefIdeal.τ).loc Cert.ValRefIdeal.main_arg1)
          ∧ r.2.mem ((c.tc : Thread Cert.ValRefIdeal.nD Cert.ValRefIdeal.τ).loc Cert.ValRefIdeal.main_arg2) = m' ((c.tc : Thread Cert.ValRefIdeal.nD Cert.ValRefIdeal.τ).loc Cert.ValRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def Claim : Prop :=
  ∃ (hState : Cert.State.Facts) (hStateIdeal : Cert.StateIdeal.Facts) (hStateRefIdeal : Cert.StateRefIdeal.Facts) (hHyena : Cert.Hyena.Facts) (hHyenaIdeal : Cert.HyenaIdeal.Facts) (hHyenaRefIdeal : Cert.HyenaRefIdeal.Facts) (hQk : Cert.Qk.Facts) (hQkIdeal : Cert.QkIdeal.Facts) (hQkRefIdeal : Cert.QkRefIdeal.Facts) (hGab : Cert.Gab.Facts) (hGabIdeal : Cert.GabIdeal.Facts) (hGabRefIdeal : Cert.GabRefIdeal.Facts) (hOg : Cert.Og.Facts) (hOgIdeal : Cert.OgIdeal.Facts) (hOgRefIdeal : Cert.OgRefIdeal.Facts) (hVal : Cert.Val.Facts) (hValIdeal : Cert.ValIdeal.Facts) (hValRefIdeal : Cert.ValRefIdeal.Facts) (hMerge : Cert.Merge.Facts) (hMergeIdeal : Cert.MergeIdeal.Facts) (hMergeRefIdeal : Cert.MergeRefIdeal.Facts),
    quiescent_State (hState := hState)
    ∧ quiescent_StateIdeal (hStateIdeal := hStateIdeal)
    ∧ quiescent_StateRefIdeal (hStateRefIdeal := hStateRefIdeal)
    ∧ quiescent_Hyena (hHyena := hHyena)
    ∧ quiescent_HyenaIdeal (hHyenaIdeal := hHyenaIdeal)
    ∧ quiescent_HyenaRefIdeal (hHyenaRefIdeal := hHyenaRefIdeal)
    ∧ quiescent_Qk (hQk := hQk)
    ∧ quiescent_QkIdeal (hQkIdeal := hQkIdeal)
    ∧ quiescent_QkRefIdeal (hQkRefIdeal := hQkRefIdeal)
    ∧ quiescent_Gab (hGab := hGab)
    ∧ quiescent_GabIdeal (hGabIdeal := hGabIdeal)
    ∧ quiescent_GabRefIdeal (hGabRefIdeal := hGabRefIdeal)
    ∧ quiescent_Og (hOg := hOg)
    ∧ quiescent_OgIdeal (hOgIdeal := hOgIdeal)
    ∧ quiescent_OgRefIdeal (hOgRefIdeal := hOgRefIdeal)
    ∧ quiescent_Val (hVal := hVal)
    ∧ quiescent_ValIdeal (hValIdeal := hValIdeal)
    ∧ quiescent_ValRefIdeal (hValRefIdeal := hValRefIdeal)
    ∧ quiescent_Merge (hMerge := hMerge)
    ∧ quiescent_MergeIdeal (hMergeIdeal := hMergeIdeal)
    ∧ quiescent_MergeRefIdeal (hMergeRefIdeal := hMergeRefIdeal)
    ∧ preserves_State_StateIdeal
    ∧ algebraic_StateIdeal_StateRefIdeal (hStateIdeal := hStateIdeal) (hStateRefIdeal := hStateRefIdeal)
    ∧ preserves_Hyena_HyenaIdeal
    ∧ algebraic_HyenaIdeal_HyenaRefIdeal (hHyenaIdeal := hHyenaIdeal) (hHyenaRefIdeal := hHyenaRefIdeal)
    ∧ preserves_Qk_QkIdeal
    ∧ algebraic_QkIdeal_QkRefIdeal (hQkIdeal := hQkIdeal) (hQkRefIdeal := hQkRefIdeal)
    ∧ preserves_Gab_GabIdeal
    ∧ algebraic_GabIdeal_GabRefIdeal (hGabIdeal := hGabIdeal) (hGabRefIdeal := hGabRefIdeal)
    ∧ preserves_Og_OgIdeal
    ∧ algebraic_OgIdeal_OgRefIdeal (hOgIdeal := hOgIdeal) (hOgRefIdeal := hOgRefIdeal)
    ∧ preserves_Val_ValIdeal
    ∧ algebraic_ValIdeal_ValRefIdeal (hValIdeal := hValIdeal) (hValRefIdeal := hValRefIdeal)
    ∧ preserves_Merge_MergeIdeal
    ∧ algebraic_MergeIdeal_MergeRefIdeal (hMergeIdeal := hMergeIdeal) (hMergeRefIdeal := hMergeRefIdeal)
-- ==== State.lean ====
abbrev S2x256x1024 : Shape := ⟨3, ![2, 256, 1024]⟩
abbrev S2x256x128 : Shape := ⟨3, ![2, 256, 128]⟩
abbrev S2x8x256 : Shape := ⟨3, ![2, 8, 256]⟩
abbrev S2x2x4x256x256 : Shape := ⟨5, ![2, 2, 4, 256, 256]⟩
abbrev S2x2x4x1x256 : Shape := ⟨5, ![2, 2, 4, 1, 256]⟩
abbrev S2x2x4x1x128 : Shape := ⟨5, ![2, 2, 4, 1, 128]⟩
abbrev S1x256x1024 : Shape := ⟨3, ![1, 256, 1024]⟩
abbrev S1x256x128 : Shape := ⟨3, ![1, 256, 128]⟩
abbrev S1x8x256 : Shape := ⟨3, ![1, 8, 256]⟩
abbrev S1x1x4x256x256 : Shape := ⟨5, ![1, 1, 4, 256, 256]⟩
abbrev S1x1x4x1x256 : Shape := ⟨5, ![1, 1, 4, 1, 256]⟩
abbrev S1x1x4x1x128 : Shape := ⟨5, ![1, 1, 4, 1, 128]⟩
abbrev S4x256x256 : Shape := ⟨3, ![4, 256, 256]⟩
abbrev S4x1x256 : Shape := ⟨3, ![4, 1, 256]⟩
abbrev S4x1x128 : Shape := ⟨3, ![4, 1, 128]⟩
abbrev S256x128 : Shape := ⟨2, ![256, 128]⟩
abbrev S256x1 : Shape := ⟨2, ![256, 1]⟩
abbrev S1x1 : Shape := ⟨2, ![1, 1]⟩
abbrev S1x1x128 : Shape := ⟨3, ![1, 1, 128]⟩
abbrev S1x128 : Shape := ⟨2, ![1, 128]⟩
abbrev S1x256x256 : Shape := ⟨3, ![1, 256, 256]⟩
abbrev S256x256 : Shape := ⟨2, ![256, 256]⟩
abbrev S1 : Shape := ⟨1, ![1]⟩
abbrev S1x1x256 : Shape := ⟨3, ![1, 1, 256]⟩
abbrev S1x256 : Shape := ⟨2, ![1, 256]⟩
abbrev S256 : Shape := ⟨1, ![256]⟩

abbrev nBuf : Space → Nat
  | .hbm => 11
  | .vmem => 25
  | .smem => 0
  | _ => 0

abbrev bufTy : (tb : Table) → Fin (tcTables nBuf tb) → BufTy
  | .hbm, ⟨0, _⟩ => ⟨S2x256x1024, .bf16⟩
  | .hbm, ⟨1, _⟩ => ⟨S2x256x1024, .bf16⟩
  | .hbm, ⟨2, _⟩ => ⟨S2x256x128, .f32⟩
  | .hbm, ⟨3, _⟩ => ⟨S2x256x128, .f32⟩
  | .hbm, ⟨4, _⟩ => ⟨S2x8x256, .f32⟩
  | .hbm, ⟨5, _⟩ => ⟨S2x2x4x256x256, .f32⟩
  | .hbm, ⟨6, _⟩ => ⟨S2x2x4x1x256, .f32⟩
  | .hbm, ⟨7, _⟩ => ⟨S2x2x4x1x128, .f32⟩
  | .hbm, ⟨8, _⟩ => ⟨S2x2x4x256x256, .f32⟩
  | .hbm, ⟨9, _⟩ => ⟨S2x2x4x1x256, .f32⟩
  | .hbm, ⟨10, _⟩ => ⟨S2x2x4x1x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x8x256, .f32⟩
  | .local _ .vmem, ⟨9, _⟩ => ⟨S1x8x256, .f32⟩
  | .local _ .vmem, ⟨10, _⟩ => ⟨S1x1x4x256x256, .f32⟩
  | .local _ .vmem, ⟨11, _⟩ => ⟨S1x1x4x256x256, .f32⟩
  | .local _ .vmem, ⟨12, _⟩ => ⟨S1x1x4x1x256, .f32⟩
  | .local _ .vmem, ⟨13, _⟩ => ⟨S1x1x4x1x256, .f32⟩
  | .local _ .vmem, ⟨14, _⟩ => ⟨S1x1x4x1x128, .f32⟩
  | .local _ .vmem, ⟨15, _⟩ => ⟨S1x1x4x1x128, .f32⟩
  | .local _ .vmem, ⟨16, _⟩ => ⟨S1x1x4x256x256, .f32⟩
  | .local _ .vmem, ⟨17, _⟩ => ⟨S1x1x4x256x256, .f32⟩
  | .local _ .vmem, ⟨18, _⟩ => ⟨S1x1x4x1x256, .f32⟩
  | .local _ .vmem, ⟨19, _⟩ => ⟨S1x1x4x1x256, .f32⟩
  | .local _ .vmem, ⟨20, _⟩ => ⟨S1x1x4x1x128, .f32⟩
  | .local _ .vmem, ⟨21, _⟩ => ⟨S1x1x4x1x128, .f32⟩
  | .local _ .vmem, ⟨22, _⟩ => ⟨S4x256x256, .f32⟩
  | .local _ .vmem, ⟨23, _⟩ => ⟨S4x1x256, .f32⟩
  | .local _ .vmem, ⟨24, _⟩ => ⟨S4x1x128, .f32⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_108 : BitVec 32 := 0#32
  let v232 : BitVec 1 := Scalar.cmpi .eq arg2 c0_i32_108
  let v233 : BitVec 32 := Scalar.extui v232
  let c0_i32_109 : BitVec 32 := 0#32
  let v234 : BitVec 1 := Scalar.cmpi .ne v233 c0_i32_109
  v234

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.subi c0_i32 v0
  let v2 : BitVec 32 := Scalar.muli arg1 v1
  let v3 : BitVec 32 := Scalar.addi arg2 v2
  let c0_i32_0 : BitVec 32 := 0#32
  let c0_i32_1 : BitVec 32 := 0#32
  ![arg0.toNat, v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.subi c0_i32 v0
  let v2 : BitVec 32 := Scalar.muli arg1 v1
  let v3 : BitVec 32 := Scalar.addi arg2 v2
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.subi c0_i32 v0
  let v2 : BitVec 32 := Scalar.muli arg1 v1
  let v3 : BitVec 32 := Scalar.addi arg2 v2
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.subi c0_i32 v0
  let v2 : BitVec 32 := Scalar.muli arg1 v1
  let v3 : BitVec 32 := Scalar.addi arg2 v2
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.subi c0_i32 v0
  let v2 : BitVec 32 := Scalar.muli arg1 v1
  let v3 : BitVec 32 := Scalar.addi arg2 v2
  let c0_i32_0 : BitVec 32 := 0#32
  let c0_i32_1 : BitVec 32 := 0#32
  ![arg0.toNat, c0_i32_0.toNat, v3.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x4x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x4x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== StateRefIdeal.lean ====
abbrev S2x256x1024 : Shape := ⟨3, ![2, 256, 1024]⟩
abbrev S2x256x128 : Shape := ⟨3, ![2, 256, 128]⟩
abbrev S2x8x256 : Shape := ⟨3, ![2, 8, 256]⟩
abbrev S2x2x4x256x256 : Shape := ⟨5, ![2, 2, 4, 256, 256]⟩
abbrev S2x2x4x1x256 : Shape := ⟨5, ![2, 2, 4, 1, 256]⟩
abbrev S2x2x4x1x128 : Shape := ⟨5, ![2, 2, 4, 1, 128]⟩
abbrev S2x256x4x256 : Shape := ⟨4, ![2, 256, 4, 256]⟩
abbrev S2x1x256x4x256 : Shape := ⟨5, ![2, 1, 256, 4, 256]⟩
abbrev S2x2x256x4x256 : Shape := ⟨5, ![2, 2, 256, 4, 256]⟩
abbrev S2x256x8 : Shape := ⟨3, ![2, 256, 8]⟩
abbrev S2x256x2x4 : Shape := ⟨4, ![2, 256, 2, 4]⟩
abbrev S2x256x1x4 : Shape := ⟨4, ![2, 256, 1, 4]⟩
abbrev S2x256x4 : Shape := ⟨3, ![2, 256, 4]⟩
abbrev S2x1x256x4 : Shape := ⟨4, ![2, 1, 256, 4]⟩
abbrev S2x2x256x4 : Shape := ⟨4, ![2, 2, 256, 4]⟩
abbrev S2x2x4x256 : Shape := ⟨4, ![2, 2, 4, 256]⟩
abbrev S2x2x4x1x1 : Shape := ⟨5, ![2, 2, 4, 1, 1]⟩
abbrev S2x2x4 : Shape := ⟨3, ![2, 2, 4]⟩
abbrev S2x2x4x1 : Shape := ⟨4, ![2, 2, 4, 1]⟩
abbrev S_ : Shape := ⟨0, ![]⟩
abbrev S2x2x4x256x1 : Shape := ⟨5, ![2, 2, 4, 256, 1]⟩

abbrev nBuf : Space → Nat
  | .hbm => 83
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S2x256x1024, .bf16⟩
  | .hbm, ⟨2, _⟩ => ⟨S2x256x128, .f32⟩
  | .hbm, ⟨3, _⟩ => ⟨S2x256x128, .f32⟩
  | .hbm, ⟨4, _⟩ => ⟨S2x8x256, .f32⟩
  | .hbm, ⟨5, _⟩ => ⟨S2x2x4x256x256, .f32⟩
  | .hbm, ⟨6, _⟩ => ⟨S2x2x4x1x256, .f32⟩
  | .hbm, ⟨7, _⟩ => ⟨S2x2x4x1x128, .f32⟩
  | .hbm, ⟨8, _⟩ => ⟨S2x256x1024, .f32⟩
  | .hbm, ⟨9, _⟩ => ⟨S2x256x4x256, .f32⟩
  | .hbm, ⟨10, _⟩ => ⟨S2x256x4x256, .f32⟩
  | .hbm, ⟨11, _⟩ => ⟨S2x1x256x4x256, .f32⟩
  | .hbm, ⟨12, _⟩ => ⟨S2x1x256x4x256, .f32⟩
  | .hbm, ⟨13, _⟩ => ⟨S2x2x256x4x256, .f32⟩
  | .hbm, ⟨14, _⟩ => ⟨S2x2x4x256x256, .f32⟩
  | .hbm, ⟨15, _⟩ => ⟨S2x256x1024, .f32⟩
  | .hbm, ⟨16, _⟩ => ⟨S2x256x4x256, .f32⟩
  | .hbm, ⟨17, _⟩ => ⟨S2x256x4x256, .f32⟩
  | .hbm, ⟨18, _⟩ => ⟨S2x1x256x4x256, .f32⟩
  | .hbm, ⟨19, _⟩ => ⟨S2x1x256x4x256, .f32⟩
  | .hbm, ⟨20, _⟩ => ⟨S2x2x256x4x256, .f32⟩
  | .hbm, ⟨21, _⟩ => ⟨S2x2x4x256x256, .f32⟩
  | .hbm, ⟨22, _⟩ => ⟨S2x256x8, .f32⟩
  | .hbm, ⟨23, _⟩ => ⟨S2x256x2x4, .f32⟩
  | .hbm, ⟨24, _⟩ => ⟨S2x256x1x4, .f32⟩
  | .hbm, ⟨25, _⟩ => ⟨S2x256x4, .f32⟩
  | .hbm, ⟨26, _⟩ => ⟨S2x256x1x4, .f32⟩
  | .hbm, ⟨27, _⟩ => ⟨S2x256x1x4, .f32⟩
  | .hbm, ⟨28, _⟩ => ⟨S2x256x4, .f32⟩
  | .hbm, ⟨29, _⟩ => ⟨S2x1x256x4, .f32⟩
  | .hbm, ⟨30, _⟩ => ⟨S2x1x256x4, .f32⟩
  | .hbm, ⟨31, _⟩ => ⟨S2x2x256x4, .f32⟩
  | .hbm, ⟨32, _⟩ => ⟨S2x2x4x256, .f32⟩
  | .hbm, ⟨33, _⟩ => ⟨S2x256x8, .f32⟩
  | .hbm, ⟨34, _⟩ => ⟨S2x256x2x4, .f32⟩
  | .hbm, ⟨35, _⟩ => ⟨S2x256x1x4, .f32⟩
  | .hbm, ⟨36, _⟩ => ⟨S2x256x4, .f32⟩
  | .hbm, ⟨37, _⟩ => ⟨S2x256x1x4, .f32⟩
  | .hbm, ⟨38, _⟩ => ⟨S2x256x1x4, .f32⟩
  | .hbm, ⟨39, _⟩ => ⟨S2x256x4, .f32⟩
  | .hbm, ⟨40, _⟩ => ⟨S2x1x256x4, .f32⟩
  | .hbm, ⟨41, _⟩ => ⟨S2x1x256x4, .f32⟩
  | .hbm, ⟨42, _⟩ => ⟨S2x2x256x4, .f32⟩
  | .hbm, ⟨43, _⟩ => ⟨S2x2x4x256, .f32⟩
  | .hbm, ⟨44, _⟩ => ⟨S2x2x4x1x1, .f32⟩
  | .hbm, ⟨45, _⟩ => ⟨S2x2x4, .f32⟩
  | .hbm, ⟨46, _⟩ => ⟨S2x2x4x1, .f32⟩
  | .hbm, ⟨47, _⟩ => ⟨S2x2x4, .f32⟩
  | .hbm, ⟨48, _⟩ => ⟨S2x2x4x1, .f32⟩
  | .hbm, ⟨49, _⟩ => ⟨S2x2x4x256, .f32⟩
  | .hbm, ⟨50, _⟩ => ⟨S2x2x4x256, .f32⟩
  | .hbm, ⟨51, _⟩ => ⟨S2x2x4, .f32⟩
  | .hbm, ⟨52, _⟩ => ⟨S_, .f32⟩
  | .hbm, ⟨53, _⟩ => ⟨S2x2x4, .f32⟩
  | .hbm, ⟨54, _⟩ => ⟨S2x2x4, .f32⟩
  | .hbm, ⟨55, _⟩ => ⟨S2x2x4x1, .f32⟩
  | .hbm, ⟨56, _⟩ => ⟨S2x2x4x256, .f32⟩
  | .hbm, ⟨57, _⟩ => ⟨S2x2x4x256, .f32⟩
  | .hbm, ⟨58, _⟩ => ⟨S2x2x4x256, .f32⟩
  | .hbm, ⟨59, _⟩ => ⟨S2x2x4, .f32⟩
  | .hbm, ⟨60, _⟩ => ⟨S2x2x4, .f32⟩
  | .hbm, ⟨61, _⟩ => ⟨S2x2x4, .f32⟩
  | .hbm, ⟨62, _⟩ => ⟨S2x2x4x1x1, .f32⟩
  | .hbm, ⟨63, _⟩ => ⟨S2x2x4x256x256, .f32⟩
  | .hbm, ⟨64, _⟩ => ⟨S2x2x4x256x256, .f32⟩
  | .hbm, ⟨65, _⟩ => ⟨S2x2x4x256x1, .f32⟩
  | .hbm, ⟨66, _⟩ => ⟨S2x2x4x256x256, .f32⟩
  | .hbm, ⟨67, _⟩ => ⟨S2x2x4x256x256, .f32⟩
  | .hbm, ⟨68, _⟩ => ⟨S2x2x4x256x256, .f32⟩
  | .hbm, ⟨69, _⟩ => ⟨S2x2x4x256x256, .f32⟩
  | .hbm, ⟨70, _⟩ => ⟨S2x2x4x1, .f32⟩
  | .hbm, ⟨71, _⟩ => ⟨S2x2x4x256, .f32⟩
  | .hbm, ⟨72, _⟩ => ⟨S2x2x4x256, .f32⟩
  | .hbm, ⟨73, _⟩ => ⟨S2x2x4x256, .f32⟩
  | .hbm, ⟨74, _⟩ => ⟨S2x2x4x256x1, .f32⟩
  | .hbm, ⟨75, _⟩ => ⟨S2x2x4x256x256, .f32⟩
  | .hbm, ⟨76, _⟩ => ⟨S2x2x4x256x256, .f32⟩
  | .hbm, ⟨77, _⟩ => ⟨S_, .f32⟩
  | .hbm, ⟨78, _⟩ => ⟨S2x2x4x256, .f32⟩
  | .hbm, ⟨79, _⟩ => ⟨S2x2x4x256, .f32⟩
  | .hbm, ⟨80, _⟩ => ⟨S2x2x4x1x256, .f32⟩
  | .hbm, ⟨81, _⟩ => ⟨S2x2x4x1x1, .f32⟩
  | .hbm, ⟨82, _⟩ => ⟨S2x2x4x1x128, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_0 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩

abbrev nD : Nat := 1
abbrev τ : Topo := Topo.v7x

variable {F : FTy → Type} [FloatOps F]
-- ==== Hyena.lean ====
abbrev S2x8192x1024 : Shape := ⟨3, ![2, 8192, 1024]⟩
abbrev S1024x9232 : Shape := ⟨2, ![1024, 9232]⟩
abbrev S9232 : Shape := ⟨1, ![9232]⟩
abbrev S3x3072 : Shape := ⟨2, ![3, 3072]⟩
abbrev S3072 : Shape := ⟨1, ![3072]⟩
abbrev S1024x3072 : Shape := ⟨2, ![1024, 3072]⟩
abbrev S3x1x1024 : Shape := ⟨3, ![3, 1, 1024]⟩
abbrev S3x3x1024 : Shape := ⟨3, ![3, 3, 1024]⟩
abbrev S1x512x1024 : Shape := ⟨3, ![1, 512, 1024]⟩
abbrev S1024x512 : Shape := ⟨2, ![1024, 512]⟩
abbrev S3x1x512 : Shape := ⟨3, ![3, 1, 512]⟩
abbrev S3x3x512 : Shape := ⟨3, ![3, 3, 512]⟩
abbrev S1x512x512 : Shape := ⟨3, ![1, 512, 512]⟩
abbrev S512x1024 : Shape := ⟨2, ![512, 1024]⟩
abbrev S512x512 : Shape := ⟨2, ![512, 512]⟩
abbrev S1x1x512 : Shape := ⟨3, ![1, 1, 512]⟩
abbrev S1x512 : Shape := ⟨2, ![1, 512]⟩
abbrev S1x3x512 : Shape := ⟨3, ![1, 3, 512]⟩
abbrev S3x512 : Shape := ⟨2, ![3, 512]⟩

abbrev nBuf : Space → Nat
  | .hbm => 14
  | .vmem => 18
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S3x3072, .f32⟩
  | .hbm, ⟨4, _⟩ => ⟨S3072, .f32⟩
  | .hbm, ⟨5, _⟩ => ⟨S1024x9232, .bf16⟩
  | .hbm, ⟨6, _⟩ => ⟨S1024x3072, .bf16⟩
  | .hbm, ⟨7, _⟩ => ⟨S3072, .f32⟩
  | .hbm, ⟨8, _⟩ => ⟨S3x1x1024, .f32⟩
  | .hbm, ⟨9, _⟩ => ⟨S3x3x1024, .f32⟩
  | .hbm, ⟨10, _⟩ => ⟨S3x3x1024, .f32⟩
  | .hbm, ⟨11, _⟩ => ⟨S3x1x1024, .f32⟩
  | .hbm, ⟨12, _⟩ => ⟨S2x8192x1024, .bf16⟩
  | .hbm, ⟨13, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S3x1x512, .f32⟩
  | .local _ .vmem, ⟨9, _⟩ => ⟨S3x1x512, .f32⟩
  | .local _ .vmem, ⟨10, _⟩ => ⟨S3x3x512, .f32⟩
  | .local _ .vmem, ⟨11, _⟩ => ⟨S3x3x512, .f32⟩
  | .local _ .vmem, ⟨12, _⟩ => ⟨S3x1x512, .f32⟩
  | .local _ .vmem, ⟨13, _⟩ => ⟨S3x1x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .f32⟩
  | .local _ .vmem, ⟨17, _⟩ => ⟨S1x512x512, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S3x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== HyenaRefIdeal.lean ====
abbrev S2x8192x1024 : Shape := ⟨3, ![2, 8192, 1024]⟩
abbrev S1024x9232 : Shape := ⟨2, ![1024, 9232]⟩
abbrev S9232 : Shape := ⟨1, ![9232]⟩
abbrev S3x3072 : Shape := ⟨2, ![3, 3072]⟩
abbrev S3072 : Shape := ⟨1, ![3072]⟩
abbrev S2x8192x9232 : Shape := ⟨3, ![2, 8192, 9232]⟩
abbrev S1x1x9232 : Shape := ⟨3, ![1, 1, 9232]⟩
abbrev S2x8192x3072 : Shape := ⟨3, ![2, 8192, 3072]⟩
abbrev S2x128x64x3072 : Shape := ⟨4, ![2, 128, 64, 3072]⟩
abbrev S_ : Shape := ⟨0, ![]⟩
abbrev S2x128x66x3072 : Shape := ⟨4, ![2, 128, 66, 3072]⟩
abbrev S1x3072 : Shape := ⟨2, ![1, 3072]⟩
abbrev S1x1x1x3072 : Shape := ⟨4, ![1, 1, 1, 3072]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S3x3072, .f32⟩
  | .hbm, ⟨4, _⟩ => ⟨S3072, .f32⟩
  | .hbm, ⟨5, _⟩ => ⟨S2x8192x1024, .f32⟩
  | .hbm, ⟨6, _⟩ => ⟨S2x8192x9232, .f32⟩
  | .hbm, ⟨7, _⟩ => ⟨S1x1x9232, .f32⟩
  | .hbm, ⟨8, _⟩ => ⟨S2x8192x9232, .f32⟩
  | .hbm, ⟨9, _⟩ => ⟨S2x8192x9232, .f32⟩
  | .hbm, ⟨10, _⟩ => ⟨S2x8192x3072, .f32⟩
  | .hbm, ⟨11, _⟩ => ⟨S2x128x64x3072, .f32⟩
  | .hbm, ⟨12, _⟩ => ⟨S_, .i32⟩
  | .hbm, ⟨13, _⟩ => ⟨S_, .f32⟩
  | .hbm, ⟨14, _⟩ => ⟨S2x128x66x3072, .f32⟩
  | .hbm, ⟨15, _⟩ => ⟨S2x128x64x3072, .f32⟩
  | .hbm, ⟨16, _⟩ => ⟨S1x3072, .f32⟩
  | .hbm, ⟨17, _⟩ => ⟨S3072, .f32⟩
  | .hbm, ⟨18, _⟩ => ⟨S1x1x1x3072, .f32⟩
  | .hbm, ⟨19, _⟩ => ⟨S2x128x64x3072, .f32⟩
  | .hbm, ⟨20, _⟩ => ⟨S2x128x64x3072, .f32⟩
  | .hbm, ⟨21, _⟩ => ⟨S2x128x64x3072, .f32⟩
  | .hbm, ⟨22, _⟩ => ⟨S1x3072, .f32⟩
  | .hbm, ⟨23, _⟩ => ⟨S3072, .f32⟩
  | .hbm, ⟨24, _⟩ => ⟨S1x1x1x3072, .f32⟩
  | .hbm, ⟨25, _⟩ => ⟨S2x128x64x3072, .f32⟩
  | .hbm, ⟨26, _⟩ => ⟨S2x128x64x3072, .f32⟩
  | .hbm, ⟨27, _⟩ => ⟨S2x128x64x3072, .f32⟩
  | .hbm, ⟨28, _⟩ => ⟨S2x128x64x3072, .f32⟩
  | .hbm, ⟨29, _⟩ => ⟨S1x3072, .f32⟩
  | .hbm, ⟨30, _⟩ => ⟨S3072, .f32⟩
  | .hbm, ⟨31, _⟩ => ⟨S1x1x1x3072, .f32⟩
  | .hbm, ⟨32, _⟩ => ⟨S2x128x64x3072, .f32⟩
  | .hbm, ⟨33, _⟩ => ⟨S2x128x64x3072, .f32⟩
  | .hbm, ⟨34, _⟩ => ⟨S2x128x64x3072, .f32⟩
  | .hbm, ⟨35, _⟩ => ⟨S1x1x1x3072, .f32⟩
  | .hbm, ⟨36, _⟩ => ⟨S2x128x64x3072, .f32⟩
  | .hbm, ⟨37, _⟩ => ⟨S2x128x64x3072, .f32⟩
  | .hbm, ⟨38, _⟩ => ⟨S2x8192x3072, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .bf16⟩
  | .hbm, ⟨43, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Qk.lean ====
abbrev S2x8192x1024 : Shape := ⟨3, ![2, 8192, 1024]⟩
abbrev S1024x9232 : Shape := ⟨2, ![1024, 9232]⟩
abbrev S9232 : Shape := ⟨1, ![9232]⟩
abbrev S3x2048 : Shape := ⟨2, ![3, 2048]⟩
abbrev S2048 : Shape := ⟨1, ![2048]⟩
abbrev S_ : Shape := ⟨0, ![]⟩
abbrev S1024 : Shape := ⟨1, ![1024]⟩
abbrev S1024x2048 : Shape := ⟨2, ![1024, 2048]⟩
abbrev S1x2048 : Shape := ⟨2, ![1, 2048]⟩
abbrev S2x8192x2048 : Shape := ⟨3, ![2, 8192, 2048]⟩
abbrev S1x512x1024 : Shape := ⟨3, ![1, 512, 1024]⟩
abbrev S1024x512 : Shape := ⟨2, ![1024, 512]⟩
abbrev S1x512 : Shape := ⟨2, ![1, 512]⟩
abbrev S3x512 : Shape := ⟨2, ![3, 512]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 17
  | .vmem => 14
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S3x2048, .f32⟩
  | .hbm, ⟨4, _⟩ => ⟨S2048, .f32⟩
  | .hbm, ⟨5, _⟩ => ⟨S1024x9232, .bf16⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S2048, .f32⟩
  | .hbm, ⟨11, _⟩ => ⟨S1024x2048, .bf16⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S2x8192x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512x512, .bf16⟩
  | .local _ .vmem, ⟨13, _⟩ => ⟨S1x512x512, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== QkRefIdeal.lean ====
abbrev S2x8192x1024 : Shape := ⟨3, ![2, 8192, 1024]⟩
abbrev S1024x9232 : Shape := ⟨2, ![1024, 9232]⟩
abbrev S9232 : Shape := ⟨1, ![9232]⟩
abbrev S3x2048 : Shape := ⟨2, ![3, 2048]⟩
abbrev S2048 : Shape := ⟨1, ![2048]⟩
abbrev S2x8192x9232 : Shape := ⟨3, ![2, 8192, 9232]⟩
abbrev S1x1x9232 : Shape := ⟨3, ![1, 1, 9232]⟩
abbrev S2x8192x2048 : Shape := ⟨3, ![2, 8192, 2048]⟩
abbrev S2x128x64x2048 : Shape := ⟨4, ![2, 128, 64, 2048]⟩
abbrev S_ : Shape := ⟨0, ![]⟩
abbrev S2x128x66x2048 : Shape := ⟨4, ![2, 128, 66, 2048]⟩
abbrev S1x2048 : Shape := ⟨2, ![1, 2048]⟩
abbrev S1x1x1x2048 : Shape := ⟨4, ![1, 1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S3x2048, .f32⟩
  | .hbm, ⟨4, _⟩ => ⟨S2048, .f32⟩
  | .hbm, ⟨5, _⟩ => ⟨S2x8192x1024, .f32⟩
  | .hbm, ⟨6, _⟩ => ⟨S2x8192x9232, .f32⟩
  | .hbm, ⟨7, _⟩ => ⟨S1x1x9232, .f32⟩
  | .hbm, ⟨8, _⟩ => ⟨S2x8192x9232, .f32⟩
  | .hbm, ⟨9, _⟩ => ⟨S2x8192x9232, .f32⟩
  | .hbm, ⟨10, _⟩ => ⟨S2x8192x2048, .f32⟩
  | .hbm, ⟨11, _⟩ => ⟨S2x128x64x2048, .f32⟩
  | .hbm, ⟨12, _⟩ => ⟨S_, .i32⟩
  | .hbm, ⟨13, _⟩ => ⟨S_, .f32⟩
  | .hbm, ⟨14, _⟩ => ⟨S2x128x66x2048, .f32⟩
  | .hbm, ⟨15, _⟩ => ⟨S2x128x64x2048, .f32⟩
  | .hbm, ⟨16, _⟩ => ⟨S1x2048, .f32⟩
  | .hbm, ⟨17, _⟩ => ⟨S2048, .f32⟩
  | .hbm, ⟨18, _⟩ => ⟨S1x1x1x2048, .f32⟩
  | .hbm, ⟨19, _⟩ => ⟨S2x128x64x2048, .f32⟩
  | .hbm, ⟨20, _⟩ => ⟨S2x128x64x2048, .f32⟩
  | .hbm, ⟨21, _⟩ => ⟨S2x128x64x2048, .f32⟩
  | .hbm, ⟨22, _⟩ => ⟨S1x2048, .f32⟩
  | .hbm, ⟨23, _⟩ => ⟨S2048, .f32⟩
  | .hbm, ⟨24, _⟩ => ⟨S1x1x1x2048, .f32⟩
  | .hbm, ⟨25, _⟩ => ⟨S2x128x64x2048, .f32⟩
  | .hbm, ⟨26, _⟩ => ⟨S2x128x64x2048, .f32⟩
  | .hbm, ⟨27, _⟩ => ⟨S2x128x64x2048, .f32⟩
  | .hbm, ⟨28, _⟩ => ⟨S2x128x64x2048, .f32⟩
  | .hbm, ⟨29, _⟩ => ⟨S1x2048, .f32⟩
  | .hbm, ⟨30, _⟩ => ⟨S2048, .f32⟩
  | .hbm, ⟨31, _⟩ => ⟨S1x1x1x2048, .f32⟩
  | .hbm, ⟨32, _⟩ => ⟨S2x128x64x2048, .f32⟩
  | .hbm, ⟨33, _⟩ => ⟨S2x128x64x2048, .f32⟩
  | .hbm, ⟨34, _⟩ => ⟨S2x128x64x2048, .f32⟩
  | .hbm, ⟨35, _⟩ => ⟨S1x1x1x2048, .f32⟩
  | .hbm, ⟨36, _⟩ => ⟨S2x128x64x2048, .f32⟩
  | .hbm, ⟨37, _⟩ => ⟨S2x128x64x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S_, .f32⟩
  | .hbm, ⟨42, _⟩ => ⟨S2x8192x2048, .f32⟩
  | .hbm, ⟨43, _⟩ => ⟨S2x8192x2048, .f32⟩
  | .hbm, ⟨44, _⟩ => ⟨S_, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192x1024, .f32⟩
  | .hbm, ⟨52, _⟩ => ⟨S2x8192x1024, .f32⟩
  | .hbm, ⟨53, _⟩ => ⟨S2x8192x2048, .f32⟩
  | .hbm, ⟨54, _⟩ => ⟨S2x8192x2048, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Gab.lean ====
abbrev S2x8192x1024 : Shape := ⟨3, ![2, 8192, 1024]⟩
abbrev S1024x9232 : Shape := ⟨2, ![1024, 9232]⟩
abbrev S9232 : Shape := ⟨1, ![9232]⟩
abbrev S1024x2048 : Shape := ⟨2, ![1024, 2048]⟩
abbrev S2048 : Shape := ⟨1, ![2048]⟩
abbrev S1x2048 : Shape := ⟨2, ![1, 2048]⟩
abbrev S2x8192x2048 : Shape := ⟨3, ![2, 8192, 2048]⟩
abbrev S1x512x1024 : Shape := ⟨3, ![1, 512, 1024]⟩
abbrev S1024x512 : Shape := ⟨2, ![1024, 512]⟩
abbrev S1x512 : Shape := ⟨2, ![1, 512]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S1024x9232, .bf16⟩
  | .hbm, ⟨4, _⟩ => ⟨S1024x2048, .bf16⟩
  | .hbm, ⟨5, _⟩ => ⟨S2048, .f32⟩
  | .hbm, ⟨6, _⟩ => ⟨S1x2048, .f32⟩
  | .hbm, ⟨7, _⟩ => ⟨S2x8192x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GabRefIdeal.lean ====
abbrev S2x8192x1024 : Shape := ⟨3, ![2, 8192, 1024]⟩
abbrev S1024x9232 : Shape := ⟨2, ![1024, 9232]⟩
abbrev S9232 : Shape := ⟨1, ![9232]⟩
abbrev S2x8192x9232 : Shape := ⟨3, ![2, 8192, 9232]⟩
abbrev S1x1x9232 : Shape := ⟨3, ![1, 1, 9232]⟩
abbrev S_ : Shape := ⟨0, ![]⟩
abbrev S2x8192x2048 : Shape := ⟨3, ![2, 8192, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S2x8192x1024, .f32⟩
  | .hbm, ⟨4, _⟩ => ⟨S2x8192x9232, .f32⟩
  | .hbm, ⟨5, _⟩ => ⟨S1x1x9232, .f32⟩
  | .hbm, ⟨6, _⟩ => ⟨S2x8192x9232, .f32⟩
  | .hbm, ⟨7, _⟩ => ⟨S2x8192x9232, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192x1024, .f32⟩
  | .hbm, ⟨25, _⟩ => ⟨S2x8192x1024, .f32⟩
  | .hbm, ⟨26, _⟩ => ⟨S2x8192x2048, .f32⟩
  | .hbm, ⟨27, _⟩ => ⟨S2x8192x2048, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Og.lean ====
abbrev S2x8192x1024 : Shape := ⟨3, ![2, 8192, 1024]⟩
abbrev S1024x9232 : Shape := ⟨2, ![1024, 9232]⟩
abbrev S9232 : Shape := ⟨1, ![9232]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1024x512 : Shape := ⟨2, ![1024, 512]⟩
abbrev S1x512 : Shape := ⟨2, ![1, 512]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S1024x9232, .bf16⟩
  | .hbm, ⟨4, _⟩ => ⟨S1024x1024, .bf16⟩
  | .hbm, ⟨5, _⟩ => ⟨S1024, .f32⟩
  | .hbm, ⟨6, _⟩ => ⟨S1x1024, .f32⟩
  | .hbm, ⟨7, _⟩ => ⟨S2x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== OgRefIdeal.lean ====
abbrev S2x8192x1024 : Shape := ⟨3, ![2, 8192, 1024]⟩
abbrev S1024x9232 : Shape := ⟨2, ![1024, 9232]⟩
abbrev S9232 : Shape := ⟨1, ![9232]⟩
abbrev S2x8192x9232 : Shape := ⟨3, ![2, 8192, 9232]⟩
abbrev S1x1x9232 : Shape := ⟨3, ![1, 1, 9232]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S2x8192x1024, .f32⟩
  | .hbm, ⟨4, _⟩ => ⟨S2x8192x9232, .f32⟩
  | .hbm, ⟨5, _⟩ => ⟨S1x1x9232, .f32⟩
  | .hbm, ⟨6, _⟩ => ⟨S2x8192x9232, .f32⟩
  | .hbm, ⟨7, _⟩ => ⟨S2x8192x9232, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Val.lean ====
abbrev S2x8192x1024 : Shape := ⟨3, ![2, 8192, 1024]⟩
abbrev S1024x9232 : Shape := ⟨2, ![1024, 9232]⟩
abbrev S9232 : Shape := ⟨1, ![9232]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1024x512 : Shape := ⟨2, ![1024, 512]⟩
abbrev S1x512 : Shape := ⟨2, ![1, 512]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S1024x9232, .bf16⟩
  | .hbm, ⟨4, _⟩ => ⟨S1024x1024, .bf16⟩
  | .hbm, ⟨5, _⟩ => ⟨S1024, .f32⟩
  | .hbm, ⟨6, _⟩ => ⟨S1x1024, .f32⟩
  | .hbm, ⟨7, _⟩ => ⟨S2x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ValRefIdeal.lean ====
abbrev S2x8192x1024 : Shape := ⟨3, ![2, 8192, 1024]⟩
abbrev S1024x9232 : Shape := ⟨2, ![1024, 9232]⟩
abbrev S9232 : Shape := ⟨1, ![9232]⟩
abbrev S2x8192x9232 : Shape := ⟨3, ![2, 8192, 9232]⟩
abbrev S1x1x9232 : Shape := ⟨3, ![1, 1, 9232]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x9232, .f32⟩
  | .hbm, ⟨2, _⟩ => ⟨S9232, .f32⟩
  | .hbm, ⟨3, _⟩ => ⟨S2x8192x1024, .f32⟩
  | .hbm, ⟨4, _⟩ => ⟨S2x8192x9232, .f32⟩
  | .hbm, ⟨5, _⟩ => ⟨S1x1x9232, .f32⟩
  | .hbm, ⟨6, _⟩ => ⟨S2x8192x9232, .f32⟩
  | .hbm, ⟨7, _⟩ => ⟨S2x8192x9232, .f32⟩
  | .hbm, ⟨8, _⟩ => ⟨S2x8192x1024, .f32⟩
  | .hbm, ⟨9, _⟩ => ⟨S2x8192x1024, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Merge.lean ====
abbrev S2x2x8192x1024 : Shape := ⟨4, ![2, 2, 8192, 1024]⟩
abbrev S2x8192x1024 : Shape := ⟨3, ![2, 8192, 1024]⟩
abbrev S2x8192x2048 : Shape := ⟨3, ![2, 8192, 2048]⟩
abbrev S1x1024 : Shape := ⟨2, ![1, 1024]⟩
abbrev S1024 : Shape := ⟨1, ![1024]⟩
abbrev S2x1x1024 : Shape := ⟨3, ![2, 1, 1024]⟩
abbrev S1024x1024 : Shape := ⟨2, ![1024, 1024]⟩
abbrev S1x1x256x1024 : Shape := ⟨4, ![1, 1, 256, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 34
  | .smem => 0
  | _ => 0

abbrev bufTy : (tb : Table) → Fin (tcTables nBuf tb) → BufTy
  | .hbm, ⟨0, _⟩ => ⟨S2x2x8192x1024, .f32⟩
  | .hbm, ⟨1, _⟩ => ⟨S2x8192x1024, .bf16⟩
  | .hbm, ⟨2, _⟩ => ⟨S2x8192x1024, .bf16⟩
  | .hbm, ⟨3, _⟩ => ⟨S2x8192x1024, .f32⟩
  | .hbm, ⟨4, _⟩ => ⟨S2x8192x1024, .f32⟩
  | .hbm, ⟨5, _⟩ => ⟨S2x8192x2048, .bf16⟩
  | .hbm, ⟨6, _⟩ => ⟨S2x8192x1024, .f32⟩
  | .hbm, ⟨7, _⟩ => ⟨S1x1024, .f32⟩
  | .hbm, ⟨8, _⟩ => ⟨S1024, .f32⟩
  | .hbm, ⟨9, _⟩ => ⟨S2x1x1024, .f32⟩
  | .hbm, ⟨10, _⟩ => ⟨S1024, .f32⟩
  | .hbm, ⟨11, _⟩ => ⟨S2x1x1024, .f32⟩
  | .hbm, ⟨12, _⟩ => ⟨S2x1x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S2x8192x1024, .f32⟩
  | .hbm, ⟨22, _⟩ => ⟨S2x8192x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x1024, .f32⟩
  | .local _ .vmem, ⟨19, _⟩ => ⟨S1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | _, _ => ⟨S2x2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MergeRefIdeal.lean ====
abbrev S2x2x8192x1024 : Shape := ⟨4, ![2, 2, 8192, 1024]⟩
abbrev S2x8192x1024 : Shape := ⟨3, ![2, 8192, 1024]⟩
abbrev S2x8192x2048 : Shape := ⟨3, ![2, 8192, 2048]⟩
abbrev S1x1024 : Shape := ⟨2, ![1, 1024]⟩
abbrev S1024 : Shape := ⟨1, ![1024]⟩
abbrev S2x1x1024 : Shape := ⟨3, ![2, 1, 1024]⟩
abbrev S1024x1024 : Shape := ⟨2, ![1024, 1024]⟩
abbrev S1x2x8192x1024 : Shape := ⟨4, ![1, 2, 8192, 1024]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S2x2x8192x1024, .f32⟩
  | .hbm, ⟨1, _⟩ => ⟨S2x8192x1024, .bf16⟩
  | .hbm, ⟨2, _⟩ => ⟨S2x8192x1024, .bf16⟩
  | .hbm, ⟨3, _⟩ => ⟨S2x8192x1024, .f32⟩
  | .hbm, ⟨4, _⟩ => ⟨S2x8192x1024, .f32⟩
  | .hbm, ⟨5, _⟩ => ⟨S2x8192x2048, .bf16⟩
  | .hbm, ⟨6, _⟩ => ⟨S2x8192x1024, .f32⟩
  | .hbm, ⟨7, _⟩ => ⟨S1x1024, .f32⟩
  | .hbm, ⟨8, _⟩ => ⟨S1024, .f32⟩
  | .hbm, ⟨9, _⟩ => ⟨S2x1x1024, .f32⟩
  | .hbm, ⟨10, _⟩ => ⟨S1024, .f32⟩
  | .hbm, ⟨11, _⟩ => ⟨S2x1x1024, .f32⟩
  | .hbm, ⟨12, _⟩ => ⟨S2x1x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S2x8192x1024, .f32⟩
  | .hbm, ⟨17, _⟩ => ⟨S1x2x8192x1024, .f32⟩
  | .hbm, ⟨18, _⟩ => ⟨S2x8192x1024, .f32⟩
  | .hbm, ⟨19, _⟩ => ⟨S1x2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .bf16⟩
  | .hbm, ⟨33, _⟩ => ⟨S2x8192x1024, .f32⟩
  | .hbm, ⟨34, _⟩ => ⟨S2x8192x1024, .bf16⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S1x1x1024, .f32⟩
  | .hbm, ⟨59, _⟩ => ⟨S2x8192x1024, .f32⟩
  | .hbm, ⟨60, _⟩ => ⟨S2x8192x1024, .f32⟩
  | .hbm, ⟨61, _⟩ => ⟨S_, .f32⟩
  | .hbm, ⟨62, _⟩ => ⟨S2x1x1024, .f32⟩
  | .hbm, ⟨63, _⟩ => ⟨S2x1x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | _, _ => ⟨S2x2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_cst_0 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Proof.Recur.lean ====
/-
  One chunk of the recurrence, for one head, over the extended reals: from the chunk's total decay, its gates, its keys
  and values and the state before it, the state after it.
-/
module

public import Idealize.ShloMosaic.PureOps.Ideal.Laws
public import Idealize.ShloMosaic.Lib.Pipeline.ValueKit

@[expose] public section

noncomputable section

namespace Cert.Mix

open Idealize.ShloMosaic

/-- The stabiliser after the chunk: the greatest of the decayed stabiliser before it and the decayed gates. -/
def peak (B m : EReal) (a : Fin 256 → EReal) : EReal :=
  max (B + m) (Finset.univ.fold max ⊥ fun s => B + a s)

/-- The weight of the chunk's token `s` in the state after it. -/
def weight (B m : EReal) (a : Fin 256 → EReal) (s : Fin 256) : EReal := Ideal.exp (B + a s - peak B m a)

/-- The weight of the state before the chunk in the state after it. -/
def fade (B m : EReal) (a : Fin 256 → EReal) : EReal := Ideal.exp (B + m - peak B m a)

/-- One element of the matrix state after the chunk, from that element before it and the tokens' keys and values at
    its row and column. -/
def carry (B m : EReal) (a : Fin 256 → EReal) (C : EReal) (k v : Fin 256 → EReal) : EReal :=
  fade B m a * C + ∑ s, k s * weight B m a s * v s

/-- One element of the normaliser after the chunk. -/
def carryN (B m : EReal) (a : Fin 256 → EReal) (n : EReal) (k : Fin 256 → EReal) : EReal :=
  fade B m a * n + ∑ s, k s * weight B m a s

/-- The value a running maximum starts from. -/
theorem lowest : Ideal.ofBits .f32 0xFF800000#32 = ⊥ := by simp [Ideal.ofBits, Ideal.ieee]

/-- A fold over the tokens in the reverse order is the fold in order. -/
theorem fold_rev (f : Fin 256 → EReal) :
    (Finset.univ.fold max ⊥ fun s : Fin 256 => f s.rev) = Finset.univ.fold max ⊥ f := by
  have h := Finset.fold_map (op := (max : EReal → EReal → EReal)) (b := ⊥) (f := f) (g := Fin.revPerm.toEmbedding)
    (s := (Finset.univ : Finset (Fin 256)))
  rw [Finset.map_univ_equiv] at h
  exact h.symm

/-- The stabiliser does not depend on the tokens' order. -/
theorem peak_rev (B m : EReal) (a : Fin 256 → EReal) : peak B m (fun s => a s.rev) = peak B m a :=
  congrArg (max (B + m)) (fold_rev fun s => B + a s)

/-- The shape of a gate array: the batch, the tokens, the heads of both directions and unused lanes. -/
abbrev GateIn : Shape := ⟨3, ![2, 256, 128]⟩

/-- The shape of the keys or values: the batch, the tokens, the heads' features. -/
abbrev KeyIn : Shape := ⟨3, ![2, 256, 1024]⟩

/-- The gate of a token, in batch row `b`, direction `z` and head `h`. -/
def gateOf (X : GateIn.Idx → EReal) (b z : Fin 2) (h : Fin 4) (s : Fin 256) : EReal := X (ix3 b s ⟨4 * z.val + h.val, by omega⟩)

/-- The chunk's decay: at the last token of the direction. -/
def lastOf (X : GateIn.Idx → EReal) (b z : Fin 2) (h : Fin 4) : EReal := gateOf X b z h (if z = 0 then 255 else 0)

/-- Feature `d` of a token's key or value, for head `h`. -/
def featOf (K : KeyIn.Idx → EReal) (b : Fin 2) (h : Fin 4) (d s : Fin 256) : EReal := K (ix3 b s ⟨256 * h.val + d.val, by omega⟩)

/-- The stabilisers after the chunk. -/
def topOf (bc ac : GateIn.Idx → EReal) (m0 : (⟨5, ![2, 2, 4, 1, 128]⟩ : Shape).Idx → EReal) (b z : Fin 2) (h : Fin 4) : EReal :=
  peak (lastOf bc b z h) (m0 (ix5 b z h 0 0)) (gateOf ac b z h)

/-- The normalisers after the chunk. -/
def normOf (k : KeyIn.Idx → EReal) (bc ac : GateIn.Idx → EReal) (n0 : (⟨5, ![2, 2, 4, 1, 256]⟩ : Shape).Idx → EReal)
    (m0 : (⟨5, ![2, 2, 4, 1, 128]⟩ : Shape).Idx → EReal) (b z : Fin 2) (h : Fin 4) (d : Fin 256) : EReal :=
  carryN (lastOf bc b z h) (m0 (ix5 b z h 0 0)) (gateOf ac b z h) (n0 (ix5 b z h 0 d)) (featOf k b h d)

/-- The matrix states after the chunk. -/
def stateOf (k v : KeyIn.Idx → EReal) (bc ac : GateIn.Idx → EReal) (c0 : (⟨5, ![2, 2, 4, 256, 256]⟩ : Shape).Idx → EReal)
    (m0 : (⟨5, ![2, 2, 4, 1, 128]⟩ : Shape).Idx → EReal) (b z : Fin 2) (h : Fin 4) (d e : Fin 256) : EReal :=
  carry (lastOf bc b z h) (m0 (ix5 b z h 0 0)) (gateOf ac b z h) (c0 (ix5 b z h d e)) (featOf k b h d) (featOf v b h e)

end Cert.Mix

end
-- ==== Proof.StateHead.lean ====
/-
  One head of the call that carries the state over a chunk: what its operations on vectors give at one element.  The
  four heads are the same operations on different columns, so each is stated once, over the gates, and the heads are
  shown to be instances.
-/
module

public import proofs.«01_k».proof.Proof.Recur
public import proofs.«01_k».proof.Proof.Gen.StateIdeal.Skeleton
public import Idealize.ShloMosaic.Lib.Pipeline.Value
public import Idealize.ShloMosaic.Lib.Pipeline.ValueKit
public import Idealize.ShloMosaic.Lib.WordCmp

@[expose] public section

set_option maxRecDepth 16384

noncomputable section

namespace Cert.StateIdeal.Head

open Idealize.ShloMosaic Idealize.ShloMosaic.TcCoe Cert.StateIdeal Cert.StateIdeal.Gen Cert.Mix

/-- The gates of a column are the token gates with the chunk's decay added. -/
theorem gates (a : S256x1.Idx → EReal) (B : S1x1.Idx → EReal) (s : Fin 256) (j : Fin 1) :
    k0_pay49 (F := Ideal) a B (ix2 s j) = B (ix2 0 0) + a (ix2 s 0) := by
  obtain rfl := Subsingleton.elim j 0
  unfold k0_pay49
  pointwise

/-- The stabiliser of a head. -/
theorem top (a : S256x1.Idx → EReal) (B M : S1x1.Idx → EReal) (i j : Fin 1) :
    k0_pay50 (F := Ideal) a B M (ix2 i j) = peak (B (ix2 0 0)) (M (ix2 0 0)) fun s => a (ix2 s 0) := by
  obtain rfl := Subsingleton.elim i 0
  obtain rfl := Subsingleton.elim j 0
  unfold k0_pay50 k0_pay49 peak
  pointwise
  rw [lowest]

/-- The weight of the old state. -/
theorem old (a : S256x1.Idx → EReal) (B M : S1x1.Idx → EReal) (i j : Fin 1) :
    k0_pay51 (F := Ideal) a B M (ix2 i j) = fade (B (ix2 0 0)) (M (ix2 0 0)) fun s => a (ix2 s 0) := by
  obtain rfl := Subsingleton.elim i 0
  obtain rfl := Subsingleton.elim j 0
  unfold k0_pay51 fade
  pointwise
  rw [top]

/-- The weighted keys. -/
theorem keys (a : S256x1.Idx → EReal) (B M : S1x1.Idx → EReal) (k : S256x256.Idx → EReal) (s d : Fin 256) :
    k0_pay52 (F := Ideal) a B M k (ix2 s d)
      = k (ix2 s d) * weight (B (ix2 0 0)) (M (ix2 0 0)) (fun s => a (ix2 s 0)) s := by
  unfold k0_pay52 weight
  pointwise
  rw [top, gates]

/-- The matrix state of a head. -/
theorem state (a : S256x1.Idx → EReal) (B M : S1x1.Idx → EReal) (k : S256x256.Idx → EReal) (v C : S1x256x256.Idx → EReal)
    (i : Fin 1) (d e : Fin 256) :
    k0_pay53 (F := Ideal) a B M k v C (ix3 i d e)
      = carry (B (ix2 0 0)) (M (ix2 0 0)) (fun s => a (ix2 s 0)) (C (ix3 0 d e)) (fun s => k (ix2 s d))
          (fun s => v (ix3 0 s e)) := by
  unfold k0_pay53 carry
  pointwise
  simp only [old, keys]

/-- The normaliser of a head. -/
theorem norm (a : S256x1.Idx → EReal) (B M : S1x1.Idx → EReal) (k : S256x256.Idx → EReal) (n : S1x1x256.Idx → EReal)
    (i j : Fin 1) (d : Fin 256) :
    k0_pay54 (F := Ideal) a B M k n (ix3 i j d)
      = carryN (B (ix2 0 0)) (M (ix2 0 0)) (fun s => a (ix2 s 0)) (n (ix3 0 0 d)) (fun s => k (ix2 s d)) := by
  unfold k0_pay54 carryN
  pointwise
  simp only [old, keys]

/-- The stabiliser of a head, repeated along the lanes. -/
theorem lanes (a : S256x1.Idx → EReal) (B M : S1x1.Idx → EReal) (i j : Fin 1) (l : Fin 128) :
    k0_pay1 (F := Ideal) (k0_pay55 (F := Ideal) a B M) (ix3 i j l)
      = peak (B (ix2 0 0)) (M (ix2 0 0)) fun s => a (ix2 s 0) := by
  unfold k0_pay1 k0_pay55
  pointwise
  rw [top]

/-- The gate of token `s` for head `hd`: the first four columns serve the forward pass, the next four the backward. -/
def col (bit : BitVec 1) (X : S1x256x128.Idx → EReal) (hd : Fin 4) (s : Fin 256) : EReal :=
  Scalar.select bit (X (ix3 0 s ⟨hd, by omega⟩)) (X (ix3 0 s ⟨4 + hd, by omega⟩))

/-- The chunk's decay for head `hd`: at its last token in the pass's direction. -/
def tot (bit : BitVec 1) (X : S1x256x128.Idx → EReal) (hd : Fin 4) : EReal :=
  Scalar.select bit (col bit X hd 255) (col bit X hd 0)

variable (t : grid0.Coords) (b a : S1x256x128.Idx → EReal)

/-- Whether the pass at a grid point is the forward one. -/
abbrev fwd : BitVec 1 := Scalar.cmpi .eq (BitVec.ofNat 32 (t 1).val) 0#32

/-- The gates of head 0, as the call takes them. -/
def gate0 (bit : BitVec 1) (X : S1x256x128.Idx → EReal) : FVec Ideal S256x1 .f32 :=
  Scalar.select bit
    (extractStridedSlice S256x1 ![0, 0] (k0_pay8 (F := Ideal) X) slices_S256x128_o0_0_S256x1)
    (extractStridedSlice S256x1 ![0, 4] (k0_pay8 (F := Ideal) X) slices_S256x128_o0_4_S256x1)

/-- The decay of head 0, as the call takes it. -/
def last0 (bit : BitVec 1) (X : S1x256x128.Idx → EReal) : FVec Ideal S1x1 .f32 :=
  Scalar.select bit (extractStridedSlice S1x1 ![255, 0] (gate0 bit X) slices_S256x1_o255_0_S1x1)
    (extractStridedSlice S1x1 ![0, 0] (gate0 bit X) slices_S256x1_o0_0_S1x1)

/-- The gates of head 0 at a token. -/
theorem gate0_at (bit : BitVec 1) (X : S1x256x128.Idx → EReal) (s : Fin 256) : gate0 bit X (ix2 s 0) = col bit X 0 s := by
  unfold gate0 col k0_pay8
  pointwise

/-- The decay of head 0. -/
theorem last0_at (bit : BitVec 1) (X : S1x256x128.Idx → EReal) : last0 bit X (ix2 0 0) = tot bit X 0 := by
  unfold last0 tot
  pointwise
  rw [gate0_at, gate0_at]

/-- The stabiliser of head 0, as the call computes it. -/
theorem lanes0 (M : S1x1x128.Idx → EReal) (i j : Fin 1) (l : Fin 128) :
    k0_pay21 (F := Ideal) (k0_pay14 (F := Ideal) t b a M) (ix3 i j l)
      = peak (tot (fwd t) b 0) (M (ix3 0 0 0)) (col (fwd t) a 0) := by
  refine (lanes (gate0 (fwd t) a) (last0 (fwd t) b) (k0_pay47 (F := Ideal) M) i j l).trans ?_
  rw [last0_at]
  simp only [gate0_at]
  unfold k0_pay47
  pointwise

/-- The normaliser of head 0, as the call computes it. -/
theorem norm0 (M : S1x1x128.Idx → EReal) (k : S1x256x256.Idx → EReal) (n : S1x1x256.Idx → EReal) (i j : Fin 1) (d : Fin 256) :
    k0_pay20 (F := Ideal) (k0_pay15 (F := Ideal) t b a M) (k0_pay16 (F := Ideal) t b a M) (k0_pay17 (F := Ideal) k) n (ix3 i j d)
      = carryN (tot (fwd t) b 0) (M (ix3 0 0 0)) (col (fwd t) a 0) (n (ix3 0 0 d)) (fun s => k (ix3 0 s d)) := by
  refine (norm (gate0 (fwd t) a) (last0 (fwd t) b) (k0_pay47 (F := Ideal) M) (k0_pay48 (F := Ideal) k) n i j d).trans ?_
  rw [last0_at]
  simp only [gate0_at]
  unfold k0_pay47 k0_pay48
  pointwise

/-- The matrix state of head 0, as the call computes it. -/
theorem state0 (M : S1x1x128.Idx → EReal) (k v C : S1x256x256.Idx → EReal) (i : Fin 1) (d e : Fin 256) :
    k0_pay19 (F := Ideal) (k0_pay12 (F := Ideal) v) (k0_pay15 (F := Ideal) t b a M) (k0_pay16 (F := Ideal) t b a M) (k0_pay17 (F := Ideal) k) C (ix3 i d e)
      = carry (tot (fwd t) b 0) (M (ix3 0 0 0)) (col (fwd t) a 0) (C (ix3 0 d e)) (fun s => k (ix3 0 s d))
          (fun s => v (ix3 0 s e)) := by
  refine (state (gate0 (fwd t) a) (last0 (fwd t) b) (k0_pay47 (F := Ideal) M) (k0_pay48 (F := Ideal) k) v C i d e).trans ?_
  rw [last0_at]
  simp only [gate0_at]
  unfold k0_pay47 k0_pay48
  pointwise

/-- The gates of head 1, as the call takes them. -/
def gate1 (bit : BitVec 1) (X : S1x256x128.Idx → EReal) : FVec Ideal S256x1 .f32 :=
  Scalar.select bit
    (extractStridedSlice S256x1 ![0, 1] (k0_pay8 (F := Ideal) X) slices_S256x128_o0_1_S256x1)
    (extractStridedSlice S256x1 ![0, 5] (k0_pay8 (F := Ideal) X) slices_S256x128_o0_5_S256x1)

/-- The decay of head 1, as the call takes it. -/
def last1 (bit : BitVec 1) (X : S1x256x128.Idx → EReal) : FVec Ideal S1x1 .f32 :=
  Scalar.select bit (extractStridedSlice S1x1 ![255, 0] (gate1 bit X) slices_S256x1_o255_0_S1x1)
    (extractStridedSlice S1x1 ![0, 0] (gate1 bit X) slices_S256x1_o0_0_S1x1)

/-- The gates of head 1 at a token. -/
theorem gate1_at (bit : BitVec 1) (X : S1x256x128.Idx → EReal) (s : Fin 256) : gate1 bit X (ix2 s 0) = col bit X 1 s := by
  unfold gate1 col k0_pay8
  pointwise

/-- The decay of head 1. -/
theorem last1_at (bit : BitVec 1) (X : S1x256x128.Idx → EReal) : last1 bit X (ix2 0 0) = tot bit X 1 := by
  unfold last1 tot
  pointwise
  rw [gate1_at, gate1_at]

/-- The stabiliser of head 1, as the call computes it. -/
theorem lanes1 (M : S1x1x128.Idx → EReal) (i j : Fin 1) (l : Fin 128) :
    k0_pay32 (F := Ideal) (k0_pay26 (F := Ideal) (k0_pay22 (F := Ideal) (fwd t) (k0_pay9 (F := Ideal) a)) (k0_pay23 (F := Ideal) (fwd t) (k0_pay8 (F := Ideal) b)) M) (ix3 i j l)
      = peak (tot (fwd t) b 1) (M (ix3 0 0 0)) (col (fwd t) a 1) := by
  refine (lanes (gate1 (fwd t) a) (last1 (fwd t) b) (k0_pay47 (F := Ideal) M) i j l).trans ?_
  rw [last1_at]
  simp only [gate1_at]
  unfold k0_pay47
  pointwise

/-- The normaliser of head 1, as the call computes it. -/
theorem norm1 (M : S1x1x128.Idx → EReal) (k : S1x256x256.Idx → EReal) (n : S1x1x256.Idx → EReal) (i j : Fin 1) (d : Fin 256) :
    k0_pay31 (F := Ideal) (k0_pay30 (F := Ideal) (k0_pay22 (F := Ideal) (fwd t) (k0_pay9 (F := Ideal) a)) (k0_pay23 (F := Ideal) (fwd t) (k0_pay8 (F := Ideal) b)) M k n) (ix3 i j d)
      = carryN (tot (fwd t) b 1) (M (ix3 0 0 0)) (col (fwd t) a 1) (n (ix3 0 0 d)) (fun s => k (ix3 0 s d)) := by
  refine (norm (gate1 (fwd t) a) (last1 (fwd t) b) (k0_pay47 (F := Ideal) M) (k0_pay48 (F := Ideal) k) n i j d).trans ?_
  rw [last1_at]
  simp only [gate1_at]
  unfold k0_pay47 k0_pay48
  pointwise

/-- The matrix state of head 1, as the call computes it. -/
theorem state1 (M : S1x1x128.Idx → EReal) (k v C : S1x256x256.Idx → EReal) (i : Fin 1) (d e : Fin 256) :
    k0_pay29 (F := Ideal) (k0_pay22 (F := Ideal) (fwd t) (k0_pay9 (F := Ideal) a)) (k0_pay23 (F := Ideal) (fwd t) (k0_pay8 (F := Ideal) b)) M k v C (ix3 i d e)
      = carry (tot (fwd t) b 1) (M (ix3 0 0 0)) (col (fwd t) a 1) (C (ix3 0 d e)) (fun s => k (ix3 0 s d))
          (fun s => v (ix3 0 s e)) := by
  refine (state (gate1 (fwd t) a) (last1 (fwd t) b) (k0_pay47 (F := Ideal) M) (k0_pay48 (F := Ideal) k) v C i d e).trans ?_
  rw [last1_at]
  simp only [gate1_at]
  unfold k0_pay47 k0_pay48
  pointwise

/-- The gates of head 2, as the call takes them. -/
def gate2 (bit : BitVec 1) (X : S1x256x128.Idx → EReal) : FVec Ideal S256x1 .f32 :=
  Scalar.select bit
    (extractStridedSlice S256x1 ![0, 2] (k0_pay8 (F := Ideal) X) slices_S256x128_o0_2_S256x1)
    (extractStridedSlice S256x1 ![0, 6] (k0_pay8 (F := Ideal) X) slices_S256x128_o0_6_S256x1)

/-- The decay of head 2, as the call takes it. -/
def last2 (bit : BitVec 1) (X : S1x256x128.Idx → EReal) : FVec Ideal S1x1 .f32 :=
  Scalar.select bit (extractStridedSlice S1x1 ![255, 0] (gate2 bit X) slices_S256x1_o255_0_S1x1)
    (extractStridedSlice S1x1 ![0, 0] (gate2 bit X) slices_S256x1_o0_0_S1x1)

/-- The gates of head 2 at a token. -/
theorem gate2_at (bit : BitVec 1) (X : S1x256x128.Idx → EReal) (s : Fin 256) : gate2 bit X (ix2 s 0) = col bit X 2 s := by
  unfold gate2 col k0_pay8
  pointwise

/-- The decay of head 2. -/
theorem last2_at (bit : BitVec 1) (X : S1x256x128.Idx → EReal) : last2 bit X (ix2 0 0) = tot bit X 2 := by
  unfold last2 tot
  pointwise
  rw [gate2_at, gate2_at]

/-- The stabiliser of head 2, as the call computes it. -/
theorem lanes2 (M : S1x1x128.Idx → EReal) (i j : Fin 1) (l : Fin 128) :
    k0_pay44 (F := Ideal) (k0_pay37 (F := Ideal) (fwd t) (k0_pay8 (F := Ideal) b) (k0_pay9 (F := Ideal) a) M) (ix3 i j l)
      = peak (tot (fwd t) b 2) (M (ix3 0 0 0)) (col (fwd t) a 2) := by
  refine (lanes (gate2 (fwd t) a) (last2 (fwd t) b) (k0_pay47 (F := Ideal) M) i j l).trans ?_
  rw [last2_at]
  simp only [gate2_at]
  unfold k0_pay47
  pointwise

/-- The normaliser of head 2, as the call computes it. -/
theorem norm2 (M : S1x1x128.Idx → EReal) (k : S1x256x256.Idx → EReal) (n : S1x1x256.Idx → EReal) (i j : Fin 1) (d : Fin 256) :
    k0_pay43 (F := Ideal) (k0_pay38 (F := Ideal) (fwd t) (k0_pay8 (F := Ideal) b) (k0_pay9 (F := Ideal) a) M) (k0_pay39 (F := Ideal) (fwd t) (k0_pay8 (F := Ideal) b) (k0_pay9 (F := Ideal) a) M k) n (ix3 i j d)
      = carryN (tot (fwd t) b 2) (M (ix3 0 0 0)) (col (fwd t) a 2) (n (ix3 0 0 d)) (fun s => k (ix3 0 s d)) := by
  refine (norm (gate2 (fwd t) a) (last2 (fwd t) b) (k0_pay47 (F := Ideal) M) (k0_pay48 (F := Ideal) k) n i j d).trans ?_
  rw [last2_at]
  simp only [gate2_at]
  unfold k0_pay47 k0_pay48
  pointwise

/-- The matrix state of head 2, as the call computes it. -/
theorem state2 (M : S1x1x128.Idx → EReal) (k v C : S1x256x256.Idx → EReal) (i : Fin 1) (d e : Fin 256) :
    k0_pay42 (F := Ideal) (k0_pay35 (F := Ideal) v) (k0_pay39 (F := Ideal) (fwd t) (k0_pay8 (F := Ideal) b) (k0_pay9 (F := Ideal) a) M k) (k0_pay40 (F := Ideal) C) (k0_pay41 (F := Ideal) (fwd t) (k0_pay8 (F := Ideal) b) (k0_pay9 (F := Ideal) a) M) (ix3 i d e)
      = carry (tot (fwd t) b 2) (M (ix3 0 0 0)) (col (fwd t) a 2) (C (ix3 0 d e)) (fun s => k (ix3 0 s d))
          (fun s => v (ix3 0 s e)) := by
  refine (state (gate2 (fwd t) a) (last2 (fwd t) b) (k0_pay47 (F := Ideal) M) (k0_pay48 (F := Ideal) k) v C i d e).trans ?_
  rw [last2_at]
  simp only [gate2_at]
  unfold k0_pay47 k0_pay48
  pointwise

/-- The gates of head 3, as the call takes them. -/
def gate3 (bit : BitVec 1) (X : S1x256x128.Idx → EReal) : FVec Ideal S256x1 .f32 :=
  Scalar.select bit
    (extractStridedSlice S256x1 ![0, 3] (k0_pay8 (F := Ideal) X) slices_S256x128_o0_3_S256x1)
    (extractStridedSlice S256x1 ![0, 7] (k0_pay8 (F := Ideal) X) slices_S256x128_o0_7_S256x1)

/-- The decay of head 3, as the call takes it. -/
def last3 (bit : BitVec 1) (X : S1x256x128.Idx → EReal) : FVec Ideal S1x1 .f32 :=
  Scalar.select bit (extractStridedSlice S1x1 ![255, 0] (gate3 bit X) slices_S256x1_o255_0_S1x1)
    (extractStridedSlice S1x1 ![0, 0] (gate3 bit X) slices_S256x1_o0_0_S1x1)

/-- The gates of head 3 at a token. -/
theorem gate3_at (bit : BitVec 1) (X : S1x256x128.Idx → EReal) (s : Fin 256) : gate3 bit X (ix2 s 0) = col bit X 3 s := by
  unfold gate3 col k0_pay8
  pointwise

/-- The decay of head 3. -/
theorem last3_at (bit : BitVec 1) (X : S1x256x128.Idx → EReal) : last3 bit X (ix2 0 0) = tot bit X 3 := by
  unfold last3 tot
  pointwise
  rw [gate3_at, gate3_at]

/-- The stabiliser of head 3, as the call computes it. -/
theorem lanes3 (M : S1x1x128.Idx → EReal) (i j : Fin 1) (l : Fin 128) :
    k0_pay1 (F := Ideal) (k0_pay55 (F := Ideal) (k0_pay45 (F := Ideal) (fwd t) (k0_pay9 (F := Ideal) a)) (k0_pay46 (F := Ideal) (fwd t) (k0_pay8 (F := Ideal) b)) (k0_pay47 (F := Ideal) M)) (ix3 i j l)
      = peak (tot (fwd t) b 3) (M (ix3 0 0 0)) (col (fwd t) a 3) := by
  refine (lanes (gate3 (fwd t) a) (last3 (fwd t) b) (k0_pay47 (F := Ideal) M) i j l).trans ?_
  rw [last3_at]
  simp only [gate3_at]
  unfold k0_pay47
  pointwise

/-- The normaliser of head 3, as the call computes it. -/
theorem norm3 (M : S1x1x128.Idx → EReal) (k : S1x256x256.Idx → EReal) (n : S1x1x256.Idx → EReal) (i j : Fin 1) (d : Fin 256) :
    k0_pay54 (F := Ideal) (k0_pay45 (F := Ideal) (fwd t) (k0_pay9 (F := Ideal) a)) (k0_pay46 (F := Ideal) (fwd t) (k0_pay8 (F := Ideal) b)) (k0_pay47 (F := Ideal) M) (k0_pay48 (F := Ideal) k) n (ix3 i j d)
      = carryN (tot (fwd t) b 3) (M (ix3 0 0 0)) (col (fwd t) a 3) (n (ix3 0 0 d)) (fun s => k (ix3 0 s d)) := by
  refine (norm (gate3 (fwd t) a) (last3 (fwd t) b) (k0_pay47 (F := Ideal) M) (k0_pay48 (F := Ideal) k) n i j d).trans ?_
  rw [last3_at]
  simp only [gate3_at]
  unfold k0_pay47 k0_pay48
  pointwise

/-- The matrix state of head 3, as the call computes it. -/
theorem state3 (M : S1x1x128.Idx → EReal) (k v C : S1x256x256.Idx → EReal) (i : Fin 1) (d e : Fin 256) :
    k0_pay53 (F := Ideal) (k0_pay45 (F := Ideal) (fwd t) (k0_pay9 (F := Ideal) a)) (k0_pay46 (F := Ideal) (fwd t) (k0_pay8 (F := Ideal) b)) (k0_pay47 (F := Ideal) M) (k0_pay48 (F := Ideal) k) v C (ix3 i d e)
      = carry (tot (fwd t) b 3) (M (ix3 0 0 0)) (col (fwd t) a 3) (C (ix3 0 d e)) (fun s => k (ix3 0 s d))
          (fun s => v (ix3 0 s e)) := by
  refine (state (gate3 (fwd t) a) (last3 (fwd t) b) (k0_pay47 (F := Ideal) M) (k0_pay48 (F := Ideal) k) v C i d e).trans ?_
  rw [last3_at]
  simp only [gate3_at]
  unfold k0_pay47 k0_pay48
  pointwise

end Cert.StateIdeal.Head

end
-- ==== Proof.StateArr.lean ====
/-
  The arrays the call that carries the state over a chunk returns, as functions of its arguments.
-/
module

public import proofs.«01_k».proof.Proof.StateHead
public import proofs.«01_k».proof.Proof.Gen.StateIdeal.Frame
public import Idealize.ShloMosaic.Lib.Pipeline.ReadBack

@[expose] public section

set_option maxRecDepth 16384

noncomputable section

namespace Cert.StateIdeal.Whole

open Idealize.ShloMosaic Idealize.ShloMosaic.TcCoe Idealize.SL.Sem
open Cert.StateIdeal Cert.StateIdeal.Gen Cert.StateIdeal.Head Cert.Mix

variable (m : (ℓ : Loc nD τ sig) → Buf (Elt Ideal) ℓ) (c : Dev nD)

/-- A row or column of a head's keys, among those of all heads. -/
theorem dims (h : Fin 4) (d : Fin 256) : 256 * h.val + d.val < 1024 := by omega

/-- The stabiliser of head `h` at a grid point. -/
def topAt (t : Fin cfg0.N) (h : Fin 4) : EReal :=
  peak (tot (fwd (grid0.coords t)) (iblk m c 2 t) h) (iblk m c 7 t (ix5 0 0 h 0 0)) (col (fwd (grid0.coords t)) (iblk m c 3 t) h)

/-- The normaliser of head `h` at a grid point. -/
def normAt (t : Fin cfg0.N) (h : Fin 4) (d : Fin 256) : EReal :=
  carryN (tot (fwd (grid0.coords t)) (iblk m c 2 t) h) (iblk m c 7 t (ix5 0 0 h 0 0)) (col (fwd (grid0.coords t)) (iblk m c 3 t) h)
    (iblk m c 6 t (ix5 0 0 h 0 d)) (fun s => iblk m c 0 t (ix3 0 s ⟨256 * h.val + d.val, dims h d⟩))

/-- The matrix state of head `h` at a grid point. -/
def stateAt (t : Fin cfg0.N) (h : Fin 4) (d e : Fin 256) : EReal :=
  carry (tot (fwd (grid0.coords t)) (iblk m c 2 t) h) (iblk m c 7 t (ix5 0 0 h 0 0)) (col (fwd (grid0.coords t)) (iblk m c 3 t) h)
    (iblk m c 5 t (ix5 0 0 h d e)) (fun s => iblk m c 0 t (ix3 0 s ⟨256 * h.val + d.val, dims h d⟩))
    (fun s => iblk m c 1 t (ix3 0 s ⟨256 * h.val + e.val, dims h e⟩))

/-- A function of three variables at equal arguments. -/
theorem congr3 {α β γ δ : Type} (f : α → β → γ → δ) {a a' : α} {b b' : β} {e e' : γ} (ha : a = a') (hb : b = b') (he : e = e') :
    f a b e = f a' b' e' := by rw [ha, hb, he]

/-- A function of four variables at equal arguments. -/
theorem congr4 {α β γ δ ε : Type} (f : α → β → γ → δ → ε) {a a' : α} {b b' : β} {e e' : γ} {g g' : δ}
    (ha : a = a') (hb : b = b') (he : e = e') (hg : g = g') : f a b e g = f a' b' e' g' := by rw [ha, hb, he, hg]

/-- A function of five variables at equal arguments. -/
theorem congr5 {α β γ δ ε ζ : Type} (f : α → β → γ → δ → ε → ζ) {a a' : α} {b b' : β} {e e' : γ} {g g' : δ} {k k' : ε}
    (ha : a = a') (hb : b = b') (he : e = e') (hg : g = g') (hk : k = k') : f a b e g k = f a' b' e' g' k' := by
  rw [ha, hb, he, hg, hk]

/-- The stabilisers the call writes at a grid point. -/
theorem after10 (t : Fin cfg0.N) (y : S1x1x4x1x128.Idx) : (dats m 0 c).after 10 t y
    = topAt m c t (y 2) := by
  rw [after0_10]
  frame_out
  simp (disch := decide) only [↓View.readCov_skip, ↓View.readCov_fill]
  unfold k0_pay4
  pointwise
  refine (congrFun (View.readCov_eq_canon' _ _ _) _).trans ?_
  refine (View.canon_append_of_piecesOf (fun z : S4x1x128.Idx => topAt m c t (z 0)) [_] [_, _, _, _]
    ⟨fun x => ?_, fun x => ?_, fun x => ?_, fun x => ?_, trivial⟩ _ (View.cover_of_tiledL _ ![1, 1, 128] (by sl_kernel_rfl) _)).trans ?_
  · idx_vars x
    refine ((lanes3 (grid0.coords t) (iblk m c 2 t) (iblk m c 3 t) _ _ _ _).trans (?_ : _ = topAt m c t 3)).trans (congrArg (topAt m c t) (Fin.ext ?_))
    · unfold topAt k0_pay7
      pointwise
    all_goals blk_simp
    rfl
  · idx_vars x
    refine ((lanes2 (grid0.coords t) (iblk m c 2 t) (iblk m c 3 t) _ _ _ _).trans (?_ : _ = topAt m c t 2)).trans (congrArg (topAt m c t) (Fin.ext ?_))
    · unfold topAt k0_pay7
      pointwise
    all_goals blk_simp
    rfl
  · idx_vars x
    refine ((lanes1 (grid0.coords t) (iblk m c 2 t) (iblk m c 3 t) _ _ _ _).trans (?_ : _ = topAt m c t 1)).trans (congrArg (topAt m c t) (Fin.ext ?_))
    · unfold topAt k0_pay7
      pointwise
    all_goals blk_simp
    rfl
  · idx_vars x
    refine ((lanes0 (grid0.coords t) (iblk m c 2 t) (iblk m c 3 t) _ _ _ _).trans (?_ : _ = topAt m c t 0)).trans (congrArg (topAt m c t) (Fin.ext ?_))
    · unfold topAt k0_pay7
      pointwise
    all_goals blk_simp
    rfl
  · refine congrArg (topAt m c t) (Fin.ext ?_)
    all_goals exact (Nat.zero_add _).trans (Nat.one_mul _)

/-- The normalisers the call writes at a grid point. -/
theorem after9 (t : Fin cfg0.N) (y : S1x1x4x1x256.Idx) : (dats m 0 c).after 9 t y
    = normAt m c t (y 2) (y 4) := by
  rw [after0_9]
  frame_out
  simp (disch := decide) only [↓View.readCov_skip, ↓View.readCov_fill]
  unfold k0_pay3
  pointwise
  refine (congrFun (View.readCov_eq_canon' _ _ _) _).trans ?_
  refine (View.canon_append_of_piecesOf (fun z : S4x1x256.Idx => normAt m c t (z 0) (z 2)) [_] [_, _, _, _]
    ⟨fun x => ?_, fun x => ?_, fun x => ?_, fun x => ?_, trivial⟩ _ (View.cover_of_tiledL _ ![1, 1, 256] (by sl_kernel_rfl) _)).trans ?_
  · idx_vars x
    refine ((norm3 (grid0.coords t) (iblk m c 2 t) (iblk m c 3 t) _ _ _ _ _ _).trans (?_ : _ = normAt m c t 3 x2)).trans (congrArg₂ (normAt m c t) (Fin.ext ?_) (Fin.ext ?_))
    · unfold normAt k0_pay7 k0_pay6
      pointwise
    all_goals blk_simp
    rfl
  · idx_vars x
    refine ((norm2 (grid0.coords t) (iblk m c 2 t) (iblk m c 3 t) _ _ _ _ _ _).trans (?_ : _ = normAt m c t 2 x2)).trans (congrArg₂ (normAt m c t) (Fin.ext ?_) (Fin.ext ?_))
    · unfold normAt k0_pay7 k0_pay6
      pointwise
    all_goals blk_simp
    rfl
  · idx_vars x
    refine ((norm1 (grid0.coords t) (iblk m c 2 t) (iblk m c 3 t) _ _ _ _ _ _).trans (?_ : _ = normAt m c t 1 x2)).trans (congrArg₂ (normAt m c t) (Fin.ext ?_) (Fin.ext ?_))
    · unfold normAt k0_pay7 k0_pay6
      pointwise
    all_goals blk_simp
    rfl
  · idx_vars x
    refine ((norm0 (grid0.coords t) (iblk m c 2 t) (iblk m c 3 t) _ _ _ _ _ _).trans (?_ : _ = normAt m c t 0 x2)).trans (congrArg₂ (normAt m c t) (Fin.ext ?_) (Fin.ext ?_))
    · unfold normAt k0_pay7 k0_pay6
      pointwise
    all_goals blk_simp
    rfl
  · refine congrArg₂ (normAt m c t) (Fin.ext ?_) (Fin.ext ?_)
    all_goals exact (Nat.zero_add _).trans (Nat.one_mul _)

/-- The matrix states the call writes at a grid point. -/
theorem after8 (t : Fin cfg0.N) (y : S1x1x4x256x256.Idx) : (dats m 0 c).after 8 t y
    = stateAt m c t (y 2) (y 3) (y 4) := by
  rw [after0_8]
  unfold outsAt0
  dsimp only
  frame_out
  simp (disch := decide) only [↓View.readCov_skip, ↓View.readCov_fill]
  unfold k0_pay2
  pointwise
  refine (congrFun (View.readCov_eq_canon' _ _ _) _).trans ?_
  refine (View.canon_append_of_piecesOf (fun z : S4x256x256.Idx => stateAt m c t (z 0) (z 1) (z 2)) [_] [_, _, _, _]
    ⟨fun x => ?_, fun x => ?_, fun x => ?_, fun x => ?_, trivial⟩ _ (View.cover_of_tiledL _ ![1, 256, 256] (by sl_kernel_rfl) _)).trans ?_
  · idx_vars x
    refine ((state3 (grid0.coords t) (iblk m c 2 t) (iblk m c 3 t) _ _ _ _ _ _ _).trans (?_ : _ = stateAt m c t 3 x1 x2)).trans (congr3 (stateAt m c t) (Fin.ext ?_) (Fin.ext ?_) (Fin.ext ?_))
    · unfold stateAt k0_pay7 k0_pay5
      pointwise
    all_goals blk_simp
    rfl
  · idx_vars x
    refine ((state2 (grid0.coords t) (iblk m c 2 t) (iblk m c 3 t) _ _ _ _ _ _ _).trans (?_ : _ = stateAt m c t 2 x1 x2)).trans (congr3 (stateAt m c t) (Fin.ext ?_) (Fin.ext ?_) (Fin.ext ?_))
    · unfold stateAt k0_pay7 k0_pay5
      pointwise
    all_goals blk_simp
    rfl
  · idx_vars x
    refine ((state1 (grid0.coords t) (iblk m c 2 t) (iblk m c 3 t) _ _ _ _ _ _ _).trans (?_ : _ = stateAt m c t 1 x1 x2)).trans (congr3 (stateAt m c t) (Fin.ext ?_) (Fin.ext ?_) (Fin.ext ?_))
    · unfold stateAt k0_pay7 k0_pay5
      pointwise
    all_goals blk_simp
    rfl
  · idx_vars x
    refine ((state0 (grid0.coords t) (iblk m c 2 t) (iblk m c 3 t) _ _ _ _ _ _ _).trans (?_ : _ = stateAt m c t 0 x1 x2)).trans (congr3 (stateAt m c t) (Fin.ext ?_) (Fin.ext ?_) (Fin.ext ?_))
    · unfold stateAt k0_pay7 k0_pay5
      pointwise
    all_goals blk_simp
    rfl
  · refine congr3 (stateAt m c t) (Fin.ext ?_) (Fin.ext ?_) (Fin.ext ?_)
    all_goals exact (Nat.zero_add _).trans (Nat.one_mul _)

/-- The blocks of a grid point, by its batch row and its direction. -/
theorem idx (t : Fin cfg0.N) : win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0]
    ∧ win0_5.index t = ![(grid0.coords t 0).val, (grid0.coords t 1).val, 0, 0, 0]
    ∧ win0_6.index t = ![(grid0.coords t 0).val, (grid0.coords t 1).val, 0, 0, 0]
    ∧ win0_7.index t = ![(grid0.coords t 0).val, (grid0.coords t 1).val, 0, 0, 0]
    ∧ win0_8.index t = ![(grid0.coords t 0).val, (grid0.coords t 1).val, 0, 0, 0]
    ∧ win0_9.index t = ![(grid0.coords t 0).val, (grid0.coords t 1).val, 0, 0, 0]
    ∧ win0_10.index t = ![(grid0.coords t 0).val, (grid0.coords t 1).val, 0, 0, 0] :=
  (by decide +kernel : ∀ t : Fin grid0.N, win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0]
    ∧ win0_5.index t = ![(grid0.coords t 0).val, (grid0.coords t 1).val, 0, 0, 0]
    ∧ win0_6.index t = ![(grid0.coords t 0).val, (grid0.coords t 1).val, 0, 0, 0]
    ∧ win0_7.index t = ![(grid0.coords t 0).val, (grid0.coords t 1).val, 0, 0, 0]
    ∧ win0_8.index t = ![(grid0.coords t 0).val, (grid0.coords t 1).val, 0, 0, 0]
    ∧ win0_9.index t = ![(grid0.coords t 0).val, (grid0.coords t 1).val, 0, 0, 0]
    ∧ win0_10.index t = ![(grid0.coords t 0).val, (grid0.coords t 1).val, 0, 0, 0]) t

/-- The decays and gates of a grid point, in the arrays. -/
theorem blk2 (t : Fin cfg0.N) (s : Fin 256) (l : Fin 128) :
    iblk m c 2 t (ix3 0 s l) = m ((c : Thread nD τ).loc main_arg2) (ix3 (grid0.coords t 0) s l) := by
  blk_point [iblk, V, idx t]

/-- The gates of a grid point, in the array. -/
theorem blk3 (t : Fin cfg0.N) (s : Fin 256) (l : Fin 128) :
    iblk m c 3 t (ix3 0 s l) = m ((c : Thread nD τ).loc main_arg3) (ix3 (grid0.coords t 0) s l) := by
  blk_point [iblk, V, idx t]

/-- The keys of a grid point, in the array. -/
theorem blk0 (t : Fin cfg0.N) (s : Fin 256) (l : Fin 1024) :
    iblk m c 0 t (ix3 0 s l) = m ((c : Thread nD τ).loc main_arg0) (ix3 (grid0.coords t 0) s l) := by
  blk_point [iblk, V, idx t]

/-- The values of a grid point, in the array. -/
theorem blk1 (t : Fin cfg0.N) (s : Fin 256) (l : Fin 1024) :
    iblk m c 1 t (ix3 0 s l) = m ((c : Thread nD τ).loc main_arg1) (ix3 (grid0.coords t 0) s l) := by
  blk_point [iblk, V, idx t]

/-- The matrix states before the chunk, in the array. -/
theorem blk5 (t : Fin cfg0.N) (h : Fin 4) (d e : Fin 256) : iblk m c 5 t (ix5 0 0 h d e)
    = m ((c : Thread nD τ).loc main_arg5) (ix5 (grid0.coords t 0) (grid0.coords t 1) h d e) := by
  blk_point [iblk, V, idx t]

/-- The normalisers before the chunk, in the array. -/
theorem blk6 (t : Fin cfg0.N) (h : Fin 4) (d : Fin 256) : iblk m c 6 t (ix5 0 0 h 0 d)
    = m ((c : Thread nD τ).loc main_arg6) (ix5 (grid0.coords t 0) (grid0.coords t 1) h 0 d) := by
  blk_point [iblk, V, idx t]

/-- The stabilisers before the chunk, in the array. -/
theorem blk7 (t : Fin cfg0.N) (h : Fin 4) : iblk m c 7 t (ix5 0 0 h 0 0)
    = m ((c : Thread nD τ).loc main_arg7) (ix5 (grid0.coords t 0) (grid0.coords t 1) h 0 0) := by
  blk_point [iblk, V, idx t]

/-- A choice by the direction of a grid point. -/
theorem pick (z : Fin 2) (p q : EReal) :
    Scalar.select (Scalar.cmpi .eq (BitVec.ofNat 32 z.val) 0#32) p q = if z = 0 then p else q := by
  match z with
  | 0 => rfl
  | 1 => rfl

/-- The gates a grid point reads, by its direction. -/
theorem col_eq (t : Fin cfg0.N) (X : S1x256x128.Idx → EReal) (Y : GateIn.Idx → EReal)
    (e : ∀ s l, X (ix3 0 s l) = Y (ix3 (grid0.coords t 0) s l)) (h : Fin 4) :
    col (fwd (grid0.coords t)) X h = gateOf Y (grid0.coords t 0) (grid0.coords t 1) h := by
  funext s
  refine (pick (grid0.coords t 1) _ _).trans ?_
  unfold gateOf
  rw [e, e]
  generalize (grid0.coords t 0) = b
  generalize (grid0.coords t 1) = z
  have hz : ∀ z : Fin 2, (if z = 0 then Y (ix3 b s ⟨h, by omega⟩) else Y (ix3 b s ⟨4 + h, by omega⟩))
      = Y (ix3 b s ⟨4 * z.val + h.val, by omega⟩) := fun z => by
    match z with
    | 0 => exact congrArg (fun l => Y (ix3 b s l)) (Fin.ext (by simp))
    | 1 => exact congrArg (fun l => Y (ix3 b s l)) (Fin.ext (by simp))
  exact hz z

/-- The decay a grid point reads, by its direction. -/
theorem tot_eq (t : Fin cfg0.N) (X : S1x256x128.Idx → EReal) (Y : GateIn.Idx → EReal)
    (e : ∀ s l, X (ix3 0 s l) = Y (ix3 (grid0.coords t 0) s l)) (h : Fin 4) :
    tot (fwd (grid0.coords t)) X h = lastOf Y (grid0.coords t 0) (grid0.coords t 1) h := by
  unfold tot lastOf
  rw [col_eq t X Y e]
  refine (pick (grid0.coords t 1) _ _).trans ?_
  have hz : ∀ b z : Fin 2, (if z = 0 then gateOf Y b z h 255 else gateOf Y b z h 0)
      = gateOf Y b z h (if z = 0 then 255 else 0) := fun b z => (apply_ite (gateOf Y b z h) (z = 0) 255 0).symm
  exact hz _ _

/-- The stabiliser of a grid point, in the arrays. -/
theorem topAt_eq (t : Fin cfg0.N) (h : Fin 4) : topAt m c t h = topOf (m ((c : Thread nD τ).loc main_arg2))
    (m ((c : Thread nD τ).loc main_arg3)) (m ((c : Thread nD τ).loc main_arg7)) (grid0.coords t 0) (grid0.coords t 1) h := by
  unfold topAt topOf
  rw [tot_eq t _ _ (blk2 m c t), col_eq t _ _ (blk3 m c t), blk7]

/-- The normaliser of a grid point, in the arrays. -/
theorem normAt_eq (t : Fin cfg0.N) (h : Fin 4) (d : Fin 256) : normAt m c t h d = normOf (m ((c : Thread nD τ).loc main_arg0))
    (m ((c : Thread nD τ).loc main_arg2)) (m ((c : Thread nD τ).loc main_arg3)) (m ((c : Thread nD τ).loc main_arg6))
    (m ((c : Thread nD τ).loc main_arg7)) (grid0.coords t 0) (grid0.coords t 1) h d := by
  unfold normAt normOf featOf
  rw [tot_eq t _ _ (blk2 m c t), col_eq t _ _ (blk3 m c t), blk7, blk6]
  simp only [blk0]

/-- The matrix state of a grid point, in the arrays. -/
theorem stateAt_eq (t : Fin cfg0.N) (h : Fin 4) (d e : Fin 256) : stateAt m c t h d e
    = stateOf (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg7)) (grid0.coords t 0) (grid0.coords t 1) h d e := by
  unfold stateAt stateOf featOf
  rw [tot_eq t _ _ (blk2 m c t), col_eq t _ _ (blk3 m c t), blk7, blk5]
  simp only [blk0, blk1]

/-- The stabilisers the call returns. -/
theorem array10 : (dats m 0 c).arrAt 10 cfg0.N = fun i : S2x2x4x1x128.Idx => topOf (m ((c : Thread nD τ).loc main_arg2))
    (m ((c : Thread nD τ).loc main_arg3)) (m ((c : Thread nD τ).loc main_arg7)) (i 0) (i 1) (i 2) := by
  refine (dats m 0 c).arrAt_eq_of_covers 10 _ (by decide +kernel) fun t hf y => ?_
  blk_simp
  rw [after10]
  refine (topAt_eq m c t (y 2)).trans (congr3 (topOf _ _ _) (Fin.ext ?_) (Fin.ext ?_) (Fin.ext ?_))
  all_goals blk_simp
  all_goals rw [(idx t).2.2.2.2.2.2.2.2.2]
  all_goals simp

/-- The normalisers the call returns. -/
theorem array9 : (dats m 0 c).arrAt 9 cfg0.N = fun i : S2x2x4x1x256.Idx => normOf (m ((c : Thread nD τ).loc main_arg0))
    (m ((c : Thread nD τ).loc main_arg2)) (m ((c : Thread nD τ).loc main_arg3)) (m ((c : Thread nD τ).loc main_arg6))
    (m ((c : Thread nD τ).loc main_arg7)) (i 0) (i 1) (i 2) (i 4) := by
  refine (dats m 0 c).arrAt_eq_of_covers 9 _ (by decide +kernel) fun t hf y => ?_
  blk_simp
  rw [after9]
  refine (normAt_eq m c t (y 2) (y 4)).trans (congr4 (normOf _ _ _ _ _) (Fin.ext ?_) (Fin.ext ?_) (Fin.ext ?_) (Fin.ext ?_))
  all_goals blk_simp
  all_goals rw [(idx t).2.2.2.2.2.2.2.2.1]
  all_goals simp

/-- The matrix states the call returns. -/
theorem array8 : (dats m 0 c).arrAt 8 cfg0.N = fun i : S2x2x4x256x256.Idx => stateOf (m ((c : Thread nD τ).loc main_arg0))
    (m ((c : Thread nD τ).loc main_arg1)) (m ((c : Thread nD τ).loc main_arg2)) (m ((c : Thread nD τ).loc main_arg3))
    (m ((c : Thread nD τ).loc main_arg5)) (m ((c : Thread nD τ).loc main_arg7)) (i 0) (i 1) (i 2) (i 3) (i 4) := by
  refine (dats m 0 c).arrAt_eq_of_covers 8 _ (by decide +kernel) fun t hf y => ?_
  blk_simp
  rw [after8]
  refine (stateAt_eq m c t (y 2) (y 3) (y 4)).trans (congr5 (stateOf _ _ _ _ _ _) (Fin.ext ?_) (Fin.ext ?_) (Fin.ext ?_) (Fin.ext ?_) (Fin.ext ?_))
  all_goals blk_simp
  all_goals rw [(idx t).2.2.2.2.2.2.2.1]
  all_goals simp

end Cert.StateIdeal.Whole

end
-- ==== Proof.StateRef.lean ====
/-
  The reference for the state after a chunk, stage by stage: the heads and gates of both directions, the stabilisers, the
  weights, and with them its three results as functions of the arguments.
-/
module

public import proofs.«01_k».proof.Proof.Recur
public import proofs.«01_k».proof.Proof.Gen.StateRefIdeal.Run

@[expose] public section

set_option maxRecDepth 16384

noncomputable section

namespace Cert.StateRefIdeal.Stages

open Idealize.ShloMosaic Idealize.ShloMosaic.TcCoe Cert.StateRefIdeal Cert.StateRefIdeal.Gen Cert.StateRefIdeal.Value Cert.Mix

/-- The token a direction reads at its step `s`: the backward pass reads the sequence from its end. -/
def tok (z : Fin 2) (s : Fin 256) : Fin 256 := if z = 0 then s else s.rev

/-- The keys or values of both directions, head by head. -/
def heads (K : S2x256x1024.Idx → EReal) : FVec Ideal S2x2x4x256x256 .f32 :=
  transpose S2x2x4x256x256 [0, 1, 3, 2, 4]
    (fn_main_v5 (F := Ideal)
      (broadcastInDim S2x1x256x4x256 ![0, 2, 3, 4] bcast_S2x256x4x256_S2x1x256x4x256_0_2_3_4
        (shapeCast S2x256x4x256 (extf .f32 (K : FVec Ideal S2x256x1024 .bf16) bitsLt_bf16_f32 : FVec Ideal S2x256x1024 .f32) shapeCasts_S2x256x1024_S2x256x4x256))
      (broadcastInDim S2x1x256x4x256 ![0, 2, 3, 4] bcast_S2x256x4x256_S2x1x256x4x256_0_2_3_4
        (Host.reverse [1] (shapeCast S2x256x4x256 (extf .f32 (K : FVec Ideal S2x256x1024 .bf16) bitsLt_bf16_f32 : FVec Ideal S2x256x1024 .f32)
          shapeCasts_S2x256x1024_S2x256x4x256 : FVec Ideal S2x256x4x256 .f32))))
    transposes_S2x2x256x4x256_S2x2x4x256x256_0_1_3_2_4

/-- The gates of both directions, head by head. -/
def gates (X : S2x256x128.Idx → EReal) : FVec Ideal S2x2x4x256 .f32 :=
  transpose S2x2x4x256 [0, 1, 3, 2]
    (fn_main_v23 (F := Ideal)
      (broadcastInDim S2x1x256x4 ![0, 2, 3] bcast_S2x256x4_S2x1x256x4_0_2_3
        (shapeCast S2x256x4 (extractStridedSlice S2x256x1x4 ![0, 0, 0, 0]
          (shapeCast S2x256x2x4 (extractStridedSlice S2x256x8 ![0, 0, 0] (X : FVec Ideal S2x256x128 .f32) slices_S2x256x128_S2x256x8_0_0_0)
            shapeCasts_S2x256x8_S2x256x2x4) slices_S2x256x2x4_S2x256x1x4_0_0_0_0) shapeCasts_S2x256x1x4_S2x256x4))
      (broadcastInDim S2x1x256x4 ![0, 2, 3] bcast_S2x256x4_S2x1x256x4_0_2_3
        (shapeCast S2x256x4 (Host.reverse [1] (extractStridedSlice S2x256x1x4 ![0, 0, 1, 0]
          (shapeCast S2x256x2x4 (extractStridedSlice S2x256x8 ![0, 0, 0] (X : FVec Ideal S2x256x128 .f32) slices_S2x256x128_S2x256x8_0_0_0)
            shapeCasts_S2x256x8_S2x256x2x4) slices_S2x256x2x4_S2x256x1x4_0_0_1_0)) shapeCasts_S2x256x1x4_S2x256x4)))
    transposes_S2x2x256x4_S2x2x4x256_0_1_3_2

/-- A head's feature at a direction's step. -/
theorem heads_at (K : S2x256x1024.Idx → EReal) (b z : Fin 2) (h : Fin 4) (s d : Fin 256) :
    heads K (ix5 b z h s d) = featOf K b h d (tok z s) := by
  unfold heads fn_main_v5 featOf tok
  pointwise
  match z with
  | 0 => exact (dif_pos (by decide)).trans (congrArg (fun l => K (ix3 b s l)) (Fin.ext (by simp [mul_comm])))
  | 1 => exact (dif_neg (by decide)).trans (congrArg (fun l => K (ix3 b s.rev l)) (Fin.ext (by simp [mul_comm])))

/-- A head's gate at a direction's step. -/
theorem gates_at (X : S2x256x128.Idx → EReal) (b z : Fin 2) (h : Fin 4) (s : Fin 256) :
    gates X (ix4 b z h s) = gateOf X b z h (tok z s) := by
  unfold gates fn_main_v23 gateOf tok
  pointwise
  match z with
  | 0 => exact (dif_pos (by decide)).trans (congrArg (fun l => X (ix3 b s l)) (Fin.ext (by simp)))
  | 1 => exact (dif_neg (by decide)).trans (congrArg (fun l => X (ix3 b s.rev l)) (Fin.ext (by simp)))

variable (k v : S2x256x1024.Idx → EReal) (bc ac : S2x256x128.Idx → EReal) (M : S2x2x4x1x128.Idx → EReal)

/-- The chunk's decays. -/
def lastG : FVec Ideal S2x2x4 .f32 :=
  shapeCast S2x2x4 (extractStridedSlice S2x2x4x1 ![0, 0, 0, 255] (gates bc) slices_S2x2x4x256_S2x2x4x1_0_0_0_255) shapeCasts_S2x2x4x1_S2x2x4

/-- The stabilisers before the chunk. -/
def before : FVec Ideal S2x2x4 .f32 :=
  shapeCast S2x2x4 (extractStridedSlice S2x2x4x1x1 ![0, 0, 0, 0, 0] (M : FVec Ideal S2x2x4x1x128 .f32) slices_S2x2x4x1x128_S2x2x4x1x1_0_0_0_0_0)
    shapeCasts_S2x2x4x1x1_S2x2x4

/-- The decayed gates. -/
def decayed : FVec Ideal S2x2x4x256 .f32 :=
  addf (broadcastInDim S2x2x4x256 ![0, 1, 2, 3] bcast_S2x2x4x1_S2x2x4x256_0_1_2_3
    (broadcastInDim S2x2x4x1 ![0, 1, 2] bcast_S2x2x4_S2x2x4x1_0_1_2 (lastG bc))) (gates ac)

/-- The stabilisers after the chunk. -/
def top : FVec Ideal S2x2x4 .f32 :=
  maximumf (addf (lastG bc) (before M))
    (Host.reduce FloatOps.maximumf (decayed bc ac) (constant S_ .f32 0xFF800000#32) reducesTo_S2x2x4x256_S2x2x4_d3 h_S_)

/-- The tokens' weights. -/
def wts : FVec Ideal S2x2x4x256 .f32 :=
  Host.exp (subf (decayed bc ac) (broadcastInDim S2x2x4x256 ![0, 1, 2, 3] bcast_S2x2x4x1_S2x2x4x256_0_1_2_3
    (broadcastInDim S2x2x4x1 ![0, 1, 2] bcast_S2x2x4_S2x2x4x1_0_1_2 (top bc ac M))))

/-- The old states' weights. -/
def old : FVec Ideal S2x2x4 .f32 := Host.exp (subf (addf (lastG bc) (before M)) (top bc ac M))

/-- The weighted keys. -/
def wkeys : FVec Ideal S2x2x4x256x256 .f32 :=
  mulf (broadcastInDim S2x2x4x256x256 ![0, 1, 2, 3, 4] bcast_S2x2x4x256x1_S2x2x4x256x256_0_1_2_3_4
    (broadcastInDim S2x2x4x256x1 ![0, 1, 2, 3] bcast_S2x2x4x256_S2x2x4x256x1_0_1_2_3 (wts bc ac M))) (heads k)

/-- The decay of a direction, at its last step. -/
theorem lastG_at (b z : Fin 2) (h : Fin 4) : lastG bc (ix3 b z h) = lastOf bc b z h := by
  unfold lastG lastOf
  pointwise
  rw [gates_at]
  match z with
  | 0 => rfl
  | 1 => rfl

/-- The stabiliser before the chunk. -/
theorem before_at (b z : Fin 2) (h : Fin 4) : before M (ix3 b z h) = M (ix5 b z h 0 0) := by
  unfold before
  pointwise

/-- A decayed gate. -/
theorem decayed_at (b z : Fin 2) (h : Fin 4) (s : Fin 256) :
    decayed bc ac (ix4 b z h s) = lastOf bc b z h + gateOf ac b z h (tok z s) := by
  unfold decayed
  pointwise
  rw [lastG_at, gates_at]

/-- The stabiliser of a direction does not depend on the order it reads the tokens in. -/
theorem peak_tok (z : Fin 2) (B m : EReal) (a : Fin 256 → EReal) : peak B m (fun s => a (tok z s)) = peak B m a := by
  match z with
  | 0 => rfl
  | 1 => exact peak_rev B m a

/-- The stabiliser after the chunk. -/
theorem top_at (b z : Fin 2) (h : Fin 4) : top bc ac M (ix3 b z h) = topOf bc ac M b z h := by
  unfold topOf
  rw [← peak_tok z]
  unfold top peak
  pointwise
  simp only [lastG_at, before_at, decayed_at]
  rw [lowest]

/-- A token's weight. -/
theorem wts_at (b z : Fin 2) (h : Fin 4) (s : Fin 256) : wts bc ac M (ix4 b z h s)
    = weight (lastOf bc b z h) (M (ix5 b z h 0 0)) (gateOf ac b z h) (tok z s) := by
  unfold wts weight
  pointwise
  rw [decayed_at, top_at]
  rfl

/-- The old state's weight. -/
theorem old_at (b z : Fin 2) (h : Fin 4) : old bc ac M (ix3 b z h)
    = fade (lastOf bc b z h) (M (ix5 b z h 0 0)) (gateOf ac b z h) := by
  unfold old fade
  pointwise
  rw [lastG_at, before_at, top_at]
  rfl

/-- A weighted key. -/
theorem wkeys_at (b z : Fin 2) (h : Fin 4) (s d : Fin 256) : wkeys k bc ac M (ix5 b z h s d)
    = featOf k b h d (tok z s) * weight (lastOf bc b z h) (M (ix5 b z h 0 0)) (gateOf ac b z h) (tok z s) := by
  unfold wkeys
  pointwise
  rw [wts_at, heads_at, mul_comm]

/-- A sum over a direction's steps is the sum over the tokens. -/
theorem sum_tok (z : Fin 2) (f : Fin 256 → EReal) : ∑ s, f (tok z s) = ∑ s, f s := by
  match z with
  | 0 => rfl
  | 1 => exact Equiv.sum_comp Fin.revPerm f

variable (m : (ℓ : Loc nD τ sig) → Buf (Elt Ideal) ℓ) (c : Dev nD)

/-- The reference's matrix states. -/
theorem result0 : res_main_v60 m c = fun i : S2x2x4x256x256.Idx => stateOf (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg5)) (m ((c.tc : Thread nD τ).loc main_arg7)) (i 0) (i 1) (i 2) (i 3) (i 4) := by
  generalize hk : m ((c.tc : Thread nD τ).loc main_arg0) = k
  generalize hv : m ((c.tc : Thread nD τ).loc main_arg1) = v
  generalize hb : m ((c.tc : Thread nD τ).loc main_arg2) = bc
  generalize ha : m ((c.tc : Thread nD τ).loc main_arg3) = ac
  generalize hC : m ((c.tc : Thread nD τ).loc main_arg5) = C
  generalize hM : m ((c.tc : Thread nD τ).loc main_arg7) = M
  have e : res_main_v60 m c = addf (F := Ideal) (mulf (broadcastInDim S2x2x4x256x256 ![0, 1, 2, 3, 4]
      bcast_S2x2x4x1x1_S2x2x4x256x256_0_1_2_3_4 (broadcastInDim S2x2x4x1x1 ![0, 1, 2] bcast_S2x2x4_S2x2x4x1x1_0_1_2 (old bc ac M))) C)
      (Host.dotGeneral dot_S2x2x4x256x256_S2x2x4x256x256_S2x2x4x256x256_3_3_4_4_012_012 none (wkeys k bc ac M) (heads v)) := by
    subst hk hv hb ha hC hM
    unfold res_main_v60
    rfl
  rw [e]
  funext i
  idx_vars i
  unfold stateOf carry
  pointwise
  rw [old_at]
  simp only [wkeys_at, heads_at]
  exact congrArg _ (sum_tok i1 fun s => featOf k i0 i2 i3 s * weight (lastOf bc i0 i1 i2) (M (ix5 i0 i1 i2 0 0)) (gateOf ac i0 i1 i2) s
    * featOf v i0 i2 i4 s)

/-- The reference's normalisers. -/
theorem result1 : res_main_v70 m c = fun i : S2x2x4x1x256.Idx => normOf (m ((c.tc : Thread nD τ).loc main_arg0))
    (m ((c.tc : Thread nD τ).loc main_arg2)) (m ((c.tc : Thread nD τ).loc main_arg3))
    (m ((c.tc : Thread nD τ).loc main_arg6)) (m ((c.tc : Thread nD τ).loc main_arg7)) (i 0) (i 1) (i 2) (i 4) := by
  generalize hk : m ((c.tc : Thread nD τ).loc main_arg0) = k
  generalize hb : m ((c.tc : Thread nD τ).loc main_arg2) = bc
  generalize ha : m ((c.tc : Thread nD τ).loc main_arg3) = ac
  generalize hN : m ((c.tc : Thread nD τ).loc main_arg6) = N
  generalize hM : m ((c.tc : Thread nD τ).loc main_arg7) = M
  have e : res_main_v70 m c = broadcastInDim S2x2x4x1x256 ![0, 1, 2, 4] bcast_S2x2x4x256_S2x2x4x1x256_0_1_2_4
      (addf (F := Ideal) (mulf (broadcastInDim S2x2x4x256 ![0, 1, 2, 3] bcast_S2x2x4x1_S2x2x4x256_0_1_2_3
        (broadcastInDim S2x2x4x1 ![0, 1, 2] bcast_S2x2x4_S2x2x4x1_0_1_2 (old bc ac M)))
        (shapeCast S2x2x4x256 (N : FVec Ideal S2x2x4x1x256 .f32) shapeCasts_S2x2x4x1x256_S2x2x4x256))
      (Host.reduceAdd (wkeys k bc ac M) (constant S_ .f32 0x00000000#32) reducesTo_S2x2x4x256x256_S2x2x4x256_d3 h_S_)) := by
    subst hk hb ha hN hM
    unfold res_main_v70
    rfl
  rw [e]
  funext i
  idx_vars i
  unfold normOf carryN
  pointwise
  rw [old_at]
  simp only [wkeys_at]
  exact congrArg _ (sum_tok i1 fun s => featOf k i0 i2 i4 s
    * weight (lastOf bc i0 i1 i2) (M (ix5 i0 i1 i2 0 0)) (gateOf ac i0 i1 i2) s)

/-- The reference's stabilisers. -/
theorem result2 : broadcastInDim S2x2x4x1x128 ![0, 1, 2, 3, 4] bcast_S2x2x4x1x1_S2x2x4x1x128_0_1_2_3_4
    (broadcastInDim S2x2x4x1x1 ![0, 1, 2] bcast_S2x2x4_S2x2x4x1x1_0_1_2 (top bc ac M))
      = fun i : S2x2x4x1x128.Idx => topOf bc ac M (i 0) (i 1) (i 2) := by
  funext i
  idx_vars i
  pointwise
  rw [top_at]

end Cert.StateRefIdeal.Stages

end
-- ==== Proof.StateValue.lean ====
/-
  The state over a chunk: the result arrays of the call and of the reference are the same functions of the arguments, and
  with that the claim that the two programs return equal arrays.
-/
module

public import proofs.«01_k».proof.Defs
public import proofs.«01_k».proof.Proof.StateArr
public import proofs.«01_k».proof.Proof.StateRef

@[expose] public section

set_option maxRecDepth 16384

noncomputable section

namespace Cert.StateIdeal.Whole

open Idealize.ShloMosaic Idealize.ShloMosaic.TcCoe Idealize.SL.Sem
open Cert.StateIdeal Cert.StateIdeal.Gen Cert.Mix

variable (m : (ℓ : Loc nD τ sig) → Buf (Elt Ideal) ℓ)

/-- The call ends, with its three results holding what its last grid point leaves and its arguments as they were. -/
theorem ends (g : Dev nD → PrngReg) : θ_run defs (onTc (τ := τ) (main (F := Ideal))) ⟨m, fun _ => 0, g⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_v0_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1 8, (h c).1 9, (h c).1 10,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩) (run_main m g)

/-- The call and the reference, on equal arguments, return equal matrix states, normalisers and stabilisers. -/
theorem algebraic : Cert.algebraic_StateIdeal_StateRefIdeal (hStateIdeal := Cert.StateIdeal.Gen.facts) (hStateRefIdeal := Cert.StateRefIdeal.Gen.facts) := by
  intro m g m' g' _ hagree
  refine ⟨fun c => (dats m 0 c).arrAt 8 cfg0.N, fun c => (dats m 0 c).arrAt 9 cfg0.N, fun c => (dats m 0 c).arrAt 10 cfg0.N,
    ends m g, ?_⟩
  refine (θ_run _ _ _).mono (fun r h c => ?_) (Cert.StateRefIdeal.Value.run m' g')
  obtain ⟨h0, h1, h2, kept⟩ := h c
  obtain ⟨a0, a1, a2, a3, _, a5, a6, a7⟩ := hagree c
  refine ⟨h0.trans ?_, h1.trans ?_, h2.trans ?_, kept⟩
  · rw [Cert.StateRefIdeal.Stages.result0, a0, a1, a2, a3, a5, a7]
    exact (array8 m c).symm
  · rw [Cert.StateRefIdeal.Stages.result1, a0, a2, a3, a6, a7]
    exact (array9 m c).symm
  · rw [a2, a3, a7]
    exact (Cert.StateRefIdeal.Stages.result2 _ _ _).trans (array10 m c).symm

end Cert.StateIdeal.Whole
-- ==== Proof.Proj.lean ====
/-
  The token projection at an index: what one element of `h · w_in + b_in` is, and the logistic function of it.
-/
module

public import Idealize.ShloMosaic.Lib.Pipeline.ValueKit
public import Idealize.ShloMosaic.PureOps.Ideal.Laws
public import Idealize.ShloMosaic.Lib.WordCmp

@[expose] public section

noncomputable section

namespace Cert.Mix

open Idealize.ShloMosaic

/-- Tokens: two sequences of 8192 rows of 1024 channels. -/
abbrev Tok : Shape := ⟨3, ![2, 8192, 1024]⟩
/-- The joint input weight. -/
abbrev WIn : Shape := ⟨2, ![1024, 9232]⟩
/-- The joint input bias. -/
abbrev BIn : Shape := ⟨1, ![9232]⟩

/-- Column `c` of the joint projection of token `t` of sequence `d`. -/
def lin (h : Tok.Idx → EReal) (w : WIn.Idx → EReal) (b : BIn.Idx → EReal) (d : Fin 2) (t : Fin 8192) (c : Fin 9232) : EReal :=
  (∑ k : Fin 1024, h (ix3 d t k) * w (ix2 k c)) + b (ix1 c)

/-- The `n` columns of the joint projection that begin at column `o`, as one array. -/
def cols (n o : Nat) (ho : o + n ≤ 9232) (h : Tok.Idx → EReal) (w : WIn.Idx → EReal) (b : BIn.Idx → EReal)
    (i : (⟨3, ![2, 8192, n]⟩ : Shape).Idx) : EReal :=
  lin h w b (i 0) (i 1) ⟨o + (i 2).val, by have h2 : (i 2).val < n := (i 2).isLt; omega⟩

/-- The short convolution along the rows of 64 tokens at column `c` of its `n` columns, which begin at column `o` of
    the joint projection: the token before, the token and the token after, weighted, with nothing beyond a row's ends. -/
def conv (n o : Nat) (ho : o + n ≤ 9232) (h : Tok.Idx → EReal) (w : WIn.Idx → EReal) (b : BIn.Idx → EReal)
    (wc : (⟨2, ![3, n]⟩ : Shape).Idx → EReal) (bc : (⟨1, ![n]⟩ : Shape).Idx → EReal)
    (d : Fin 2) (t : Fin 8192) (c : Fin n) : EReal :=
  (if t.val % 64 = 0 then 0 else lin h w b d ⟨t.val - 1, by omega⟩ ⟨o + c.val, by omega⟩) * wc (ix2 0 c)
    + lin h w b d t ⟨o + c.val, by omega⟩ * wc (ix2 1 c)
    + (if hl : t.val % 64 = 63 then 0 else lin h w b d ⟨t.val + 1, by omega⟩ ⟨o + c.val, by omega⟩) * wc (ix2 2 c)
    + bc (ix1 c)

/-- One element of a block's projection: row `r` of the block of tokens by column `q` of the block of the weight, plus
    the bias `β` there. -/
def blkLin (x : (⟨3, ![1, 512, 1024]⟩ : Shape).Idx → EReal) (w : (⟨2, ![1024, 512]⟩ : Shape).Idx → EReal) (β : EReal)
    (q : Fin 512) (r : Fin 512) : EReal :=
  (∑ k : Fin 1024, x (ix3 0 r k) * w (ix2 k q)) + β

/-- The convolution at row `r` of a block of 512 rows, from the projection `X` of those rows and the weights there: the
    rows before and after are the rows rotated by one, left out at the ends of every 64. -/
def blkConv (X : Fin 512 → EReal) (w0 w1 w2 b0 : EReal) (r : Fin 512) : EReal :=
  Scalar.select (IntOp.cmpi .eq (IntOp.andi (BitVec.ofNat 32 r.val) 63#32) 0#32) 0
        (X ⟨(r.val + 512 - 1) % 512, by omega⟩ * w0) + X r * w1
      + Scalar.select (IntOp.cmpi .eq (IntOp.andi (BitVec.ofNat 32 r.val) 63#32) 63#32) 0
        (X ⟨(r.val + 512 - 511) % 512, by omega⟩ * w2) + b0

/-- Within a block of 512 rows, "the row's place is a multiple of 64" as the comparison of words says it. -/
theorem first_of_row : ∀ r : Fin 512,
    IntOp.cmpi .eq (IntOp.andi (BitVec.ofNat 32 r.val) 63#32) 0#32 = BitVec.ofBool (decide (r.val % 64 = 0)) := by
  decide +kernel

/-- Within a block of 512 rows, "the row's place is the last of its 64" as the comparison of words says it. -/
theorem last_of_row : ∀ r : Fin 512,
    IntOp.cmpi .eq (IntOp.andi (BitVec.ofNat 32 r.val) 63#32) 63#32 = BitVec.ofBool (decide (r.val % 64 = 63)) := by
  decide +kernel

/-- The convolution as a block of 512 rows computes it, from the projection `X` of those rows alone: the rows before
    and after are the block's rows rotated by one, and the rotated row is left out at the ends of every 64. -/
theorem conv_block {n o : Nat} (ho : o + n ≤ 9232) (h : Tok.Idx → EReal) (w : WIn.Idx → EReal) (b : BIn.Idx → EReal)
    (wc : (⟨2, ![3, n]⟩ : Shape).Idx → EReal) (bc : (⟨1, ![n]⟩ : Shape).Idx → EReal)
    (d : Fin 2) (T : Fin 8192) (c : Fin n) (R : Nat) (r : Fin 512) (hT : T.val = R * 512 + r.val) (hR : R < 16)
    (X : Fin 512 → EReal)
    (hX : ∀ s : Fin 512, X s = lin h w b d ⟨R * 512 + s.val, by omega⟩ ⟨o + c.val, by omega⟩)
    (w0 w1 w2 b0 : EReal) (h0 : w0 = wc (ix2 0 c)) (h1 : w1 = wc (ix2 1 c)) (h2 : w2 = wc (ix2 2 c)) (hb : b0 = bc (ix1 c)) :
    blkConv X w0 w1 w2 b0 r = conv n o ho h w b wc bc d T c := by
  subst h0 h1 h2 hb
  unfold blkConv
  rw [first_of_row, last_of_row, Idealize.ShloMosaic.WordCmp.select_ofBool, Idealize.ShloMosaic.WordCmp.select_ofBool]
  simp only [hX, decide_eq_true_eq]
  unfold conv
  obtain ⟨T, hT'⟩ := T
  dsimp only at hT
  subst hT
  refine congrArg₂ (· + ·) (congrArg₂ (· + ·) (congrArg₂ (· + ·) ?_ rfl) ?_) rfl
  · by_cases hz : r.val % 64 = 0
    · rw [if_pos hz, if_pos (by dsimp only; omega), zero_mul]
    · have e : R * 512 + (r.val + 512 - 1) % 512 = R * 512 + r.val - 1 := by omega
      rw [if_neg hz, if_neg (by dsimp only; omega)]
      simp only [e]
  · by_cases hz : r.val % 64 = 63
    · rw [if_pos hz, dif_pos (by dsimp only; omega), zero_mul]
    · have e : R * 512 + (r.val + 512 - 511) % 512 = R * 512 + r.val + 1 := by omega
      rw [if_neg hz, dif_neg (by dsimp only; omega)]
      simp only [e]

/-- The convolution as the rows of 64 tokens, each with a zero before and a zero after, give it. -/
theorem conv_padded {n o : Nat} (ho : o + n ≤ 9232) (h : Tok.Idx → EReal) (w : WIn.Idx → EReal) (b : BIn.Idx → EReal)
    (wc : (⟨2, ![3, n]⟩ : Shape).Idx → EReal) (bc : (⟨1, ![n]⟩ : Shape).Idx → EReal)
    (d : Fin 2) (T : Fin 8192) (c : Fin n) (z : EReal) (hz : z = 0) :
    (if _h : T.val / 64 < 128 ∧ (1 ≤ T.val % 64 ∧ T.val % 64 - 1 < 64) then
          lin h w b d ⟨T.val / 64 * 64 + (T.val % 64 - 1), by omega⟩ ⟨o + c.val, by omega⟩ else z) * wc (ix2 0 c)
      + (if _h : T.val / 64 < 128 ∧ T.val % 64 < 64 then lin h w b d T ⟨o + c.val, by omega⟩ else z) * wc (ix2 1 c)
      + (if _h : T.val / 64 < 128 ∧ (1 ≤ 2 + T.val % 64 ∧ 2 + T.val % 64 - 1 < 64) then
          lin h w b d ⟨T.val / 64 * 64 + (2 + T.val % 64 - 1), by omega⟩ ⟨o + c.val, by omega⟩ else z) * wc (ix2 2 c)
      + bc (ix1 c)
      = conv n o ho h w b wc bc d T c := by
  subst hz
  unfold conv
  have hc := c.isLt
  have hT := T.isLt
  refine congrArg₂ (· + ·) (congrArg₂ (· + ·) (congrArg₂ (· + ·) (congrArg (· * _) ?_) (congrArg (· * _) ?_)) (congrArg (· * _) ?_)) rfl
  · by_cases hf : T.val % 64 = 0
    · rw [if_pos hf, dif_neg (by omega)]
    · have e : T.val / 64 * 64 + (T.val % 64 - 1) = T.val - 1 := by omega
      rw [if_neg hf, dif_pos (by omega)]
      simp only [e]
  · rw [dif_pos (by omega)]
  · by_cases hl : T.val % 64 = 63
    · rw [dif_pos hl, dif_neg (by omega)]
    · have e : T.val / 64 * 64 + (2 + T.val % 64 - 1) = T.val + 1 := by omega
      rw [dif_neg hl, dif_pos (by omega)]
      simp only [e]

end Cert.Mix
-- ==== Proof.HyenaBlock.lean ====
/-
  The blocks of the projection and short convolution that feed the long convolution: where they lie, and what the body
  computes from them at an element.
-/
module

public import proofs.«01_k».proof.Defs
public import proofs.«01_k».proof.Proof.Proj
public import proofs.«01_k».proof.Proof.Gen.HyenaIdeal.Value

@[expose] public section

set_option maxRecDepth 16384

noncomputable section

namespace Cert.HyenaIdeal.Whole

open Idealize.ShloMosaic Idealize.ShloMosaic.TcCoe Idealize.SL.Sem Cert.HyenaIdeal Cert.HyenaIdeal.Gen Cert.Mix
open Idealize.ShloMosaic.Pipeline (Dat Cfg Window)

variable (m : (ℓ : Loc nD τ sig) → Buf (Elt Ideal) ℓ)

/-- The blocks of the arguments at a point, by the block `p` of a result written there. -/
abbrev Places (p : Fin 3 → Nat) (t : Fin cfg0.N) : Prop := win0_0.index t = ![p 0, p 1, 0]
    ∧ win0_1.index t = ![0, p 2] ∧ win0_2.index t = ![0, 2 + p 2] ∧ win0_3.index t = ![0, 4 + p 2]
    ∧ win0_4.index t = ![0, 0, p 2] ∧ win0_5.index t = ![0, 0, p 2] ∧ win0_6.index t = ![0, 0, p 2]
    ∧ p 0 < 2 ∧ p 1 < 16 ∧ p 2 < 2

/-- The places, by the block of the first result. -/
theorem places7 (t : Fin cfg0.N) : Places (win0_7.index t) t := (by decide +kernel : ∀ t : Fin grid0.N, Places (win0_7.index t) t) t

/-- The places, by the block of the second result. -/
theorem places8 (t : Fin cfg0.N) : Places (win0_8.index t) t := (by decide +kernel : ∀ t : Fin grid0.N, Places (win0_8.index t) t) t

/-- A column of a block of the first result is one of the 3072. -/
theorem col_lt0 {p : Fin 3 → Nat} {t : Fin cfg0.N} (hp : Places p t) (q : Fin 512) : p 2 * 512 + q.val < 3072 := by
  have h := hp.2.2.2.2.2.2.2.2.2
  omega

/-- A column of a block of a later group is one of the 3072. -/
theorem col_lt (g : Nat) {p : Fin 3 → Nat} {t : Fin cfg0.N} (hp : Places p t) (q : Fin 512) (hg : g ≤ 2 := by decide) :
    1024 * g + (p 2 * 512 + q.val) < 3072 := by
  have h := hp.2.2.2.2.2.2.2.2.2
  omega

/-- The first group, as one array: its convolved columns. -/
def lead (h : Tok.Idx → EReal) (w : WIn.Idx → EReal) (b : BIn.Idx → EReal)
    (wc : (⟨2, ![3, 3072]⟩ : Shape).Idx → EReal) (bc : (⟨1, ![3072]⟩ : Shape).Idx → EReal) (i : Tok.Idx) : EReal :=
  conv 3072 4112 (by decide) h w b wc bc (i 0) (i 1)
    ⟨(i 2).val, by have h2 : (i 2).val < 1024 := (i 2).isLt; omega⟩

/-- The first group's block, at an element, from the blocks the body loads. -/
theorem convolved0 (x : Vec Ideal S1x512x1024 .bf16) (w : Vec Ideal S1024x512 .bf16) (b : Vec Ideal S1x1x512 .f32)
    (wc : Vec Ideal S1x3x512 .f32) (bc : Vec Ideal S1x1x512 .f32) (y : S1x512x512.Idx) :
    k0_pay1 (k0_pay14 (k0_pay11 (k0_pay6 bc) (k0_pay8 x w b) (k0_pay9 x w b wc) (k0_pay10 wc))) y
      = blkConv (blkLin x w (b (ix3 0 0 (y 2))) (y 2)) (wc (ix3 0 0 (y 2))) (wc (ix3 0 1 (y 2))) (wc (ix3 0 2 (y 2)))
        (bc (ix3 0 0 (y 2))) (y 1) := by
  unfold_payloads
  pointwise
  rfl

/-- The second group's block. -/
theorem convolved1 (x : Vec Ideal S1x512x1024 .bf16) (w : Vec Ideal S1024x512 .bf16) (b : Vec Ideal S1x1x512 .f32)
    (wc : Vec Ideal S1x3x512 .f32) (bc : Vec Ideal S1x1x512 .f32) (r q : Fin 512) :
    k0_pay12 (k0_pay3 x) w b wc bc (ix2 r q)
      = blkConv (blkLin x w (b (ix3 0 0 q)) q) (wc (ix3 0 0 q)) (wc (ix3 0 1 q)) (wc (ix3 0 2 q)) (bc (ix3 0 0 q)) r := by
  unfold_payloads
  pointwise
  rfl

/-- The third group's block. -/
theorem convolved2 (x : Vec Ideal S1x512x1024 .bf16) (w : Vec Ideal S1024x512 .bf16) (b : Vec Ideal S1x1x512 .f32)
    (wc : Vec Ideal S1x3x512 .f32) (bc : Vec Ideal S1x1x512 .f32) (r q : Fin 512) :
    k0_pay13 (k0_pay3 x) w b wc bc (ix2 r q)
      = blkConv (blkLin x w (b (ix3 0 0 q)) q) (wc (ix3 0 0 q)) (wc (ix3 0 1 q)) (wc (ix3 0 2 q)) (bc (ix3 0 0 q)) r := by
  unfold_payloads
  pointwise
  rfl

/-- The product of the last two groups' blocks. -/
theorem product (u v : FVec Ideal S512x512 .f32) (y : S1x512x512.Idx) :
    k0_pay2 u v y = (fun a b : EReal => a * b) (u (ix2 (y 1) (y 2))) (v (ix2 (y 1) (y 2))) := by
  unfold_payloads
  pointwise

/-- The product of the last two groups' blocks, at an element, from the blocks the body loads. -/
theorem product_block (x : Vec Ideal S1x512x1024 .bf16) (w w' : Vec Ideal S1024x512 .bf16) (b b' : Vec Ideal S1x1x512 .f32)
    (wc wc' : Vec Ideal S1x3x512 .f32) (bc bc' : Vec Ideal S1x1x512 .f32) (y : S1x512x512.Idx) :
    k0_pay2 (k0_pay12 (k0_pay3 x) w b wc bc) (k0_pay13 (k0_pay3 x) w' b' wc' bc') y = (fun a b : EReal => a * b)
      (blkConv (blkLin x w (b (ix3 0 0 (y 2))) (y 2)) (wc (ix3 0 0 (y 2))) (wc (ix3 0 1 (y 2))) (wc (ix3 0 2 (y 2)))
        (bc (ix3 0 0 (y 2))) (y 1))
      (blkConv (blkLin x w' (b' (ix3 0 0 (y 2))) (y 2)) (wc' (ix3 0 0 (y 2))) (wc' (ix3 0 1 (y 2))) (wc' (ix3 0 2 (y 2)))
        (bc' (ix3 0 0 (y 2))) (y 1)) :=
  (product _ _ y).trans (congrArg₂ (fun a b : EReal => a * b) (convolved1 x w b wc bc (y 1) (y 2))
    (convolved2 x w' b' wc' bc' (y 1) (y 2)))

/-- The second result of the call: the product of the other two groups. -/
def prod (h : Tok.Idx → EReal) (w : WIn.Idx → EReal) (b : BIn.Idx → EReal)
    (wc : (⟨2, ![3, 3072]⟩ : Shape).Idx → EReal) (bc : (⟨1, ![3072]⟩ : Shape).Idx → EReal) (i : Tok.Idx) : EReal :=
  (fun a b : EReal => a * b) (conv 3072 4112 (by decide) h w b wc bc (i 0) (i 1)
    ⟨1024 + (i 2).val, by have h2 : (i 2).val < 1024 := (i 2).isLt; omega⟩) (conv 3072 4112 (by decide) h w b wc bc (i 0) (i 1)
    ⟨2048 + (i 2).val, by have h2 : (i 2).val < 1024 := (i 2).isLt; omega⟩)

end Cert.HyenaIdeal.Whole
-- ==== Proof.HyenaLead.lean ====
/-
  The first result array of the call: the convolved columns of the first group.
-/
module

public import proofs.«01_k».proof.Proof.HyenaBlock

@[expose] public section

set_option maxRecDepth 16384

noncomputable section

namespace Cert.HyenaIdeal.Whole

open Idealize.ShloMosaic Idealize.ShloMosaic.TcCoe Idealize.SL.Sem Cert.HyenaIdeal Cert.HyenaIdeal.Gen Cert.Mix
open Idealize.ShloMosaic.Pipeline (Dat Cfg Window)

variable (m : (ℓ : Loc nD τ sig) → Buf (Elt Ideal) ℓ)

/-- The first result of the call: the first group. -/
theorem array7 (c : Dev nD) : (dats m 0 c).arrAt 7 cfg0.N = lead
      (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  unfold lead
  blk_simp
  rw [after0_7]
  frame_out
  refine (convolved0 (iblk m c 0 t) (iblk m c 1 t) (View.ld (iblk m c 4 t) r0_2) (View.ld (iblk m c 5 t) r0_3)
    (View.ld (iblk m c 6 t) r0_2) y).trans ?_
  refine conv_block (n := 3072) (o := 4112) (by decide) _ _ _ _ _ (((cfg0.win 7).blk t).view.emb y 0)
    (((cfg0.win 7).blk t).view.emb y 1) ⟨win0_7.index t 2 * 512 + (y 2).val, col_lt0 (places7 t) (y 2)⟩
    (win0_7.index t 1) (y 1) ?_ (places7 t).2.2.2.2.2.2.2.2.1 _ (fun s => ?_) _ _ _ _ ?_ ?_ ?_ ?_
  · blk_simp
  · unfold lin blkLin
    pointwise
    blk_point [iblk, V, places7 t]
  all_goals
    pointwise
    blk_point [iblk, V, places7 t]

end Cert.HyenaIdeal.Whole
-- ==== Proof.HyenaProd.lean ====
/-
  The second result array of the call: the product of the convolved columns of the second and the third group.
-/
module

public import proofs.«01_k».proof.Proof.HyenaBlock

@[expose] public section

set_option maxRecDepth 16384

noncomputable section

namespace Cert.HyenaIdeal.Whole

open Idealize.ShloMosaic Idealize.ShloMosaic.TcCoe Idealize.SL.Sem Cert.HyenaIdeal Cert.HyenaIdeal.Gen Cert.Mix
open Idealize.ShloMosaic.Pipeline (Dat Cfg Window)

variable (m : (ℓ : Loc nD τ sig) → Buf (Elt Ideal) ℓ)

/-- The second group at an element of its block. -/
theorem second (c : Dev nD) (t : Fin cfg0.N) (d : Fin 2) (T : Fin 8192) (r q : Fin 512) (hd : d.val = win0_8.index t 0)
    (hT : T.val = win0_8.index t 1 * 512 + r.val) :
    blkConv (blkLin (iblk m c 0 t) (iblk m c 2 t) (View.ld (iblk m c 4 t) r0_4 (ix3 0 0 q)) q)
      (View.ld (iblk m c 5 t) r0_5 (ix3 0 0 q)) (View.ld (iblk m c 5 t) r0_5 (ix3 0 1 q))
      (View.ld (iblk m c 5 t) r0_5 (ix3 0 2 q)) (View.ld (iblk m c 6 t) r0_4 (ix3 0 0 q)) r
    = conv 3072 4112 (by decide) (m ((c : Thread nD τ).loc main_arg0)) (m ((c : Thread nD τ).loc main_arg1))
      (m ((c : Thread nD τ).loc main_arg2)) (m ((c : Thread nD τ).loc main_arg3)) (m ((c : Thread nD τ).loc main_arg4)) d T
      ⟨1024 + (win0_8.index t 2 * 512 + q.val), col_lt 1 (places8 t) q⟩ := by
  have hp := places8 t
  obtain ⟨d, hd'⟩ := d
  dsimp only at hd
  subst hd
  refine conv_block (n := 3072) (o := 4112) (by decide) _ _ _ _ _ ⟨win0_8.index t 0, hd'⟩ T
    ⟨1024 + (win0_8.index t 2 * 512 + q.val), col_lt 1 (places8 t) q⟩ (win0_8.index t 1) r hT
    (places8 t).2.2.2.2.2.2.2.2.1 _ (fun s => ?_) _ _ _ _ ?_ ?_ ?_ ?_
  · unfold lin blkLin
    pointwise
    blk_point [iblk, V, places8 t]
  all_goals
    pointwise
    blk_point [iblk, V, places8 t]

/-- The third group at an element of its block. -/
theorem third (c : Dev nD) (t : Fin cfg0.N) (d : Fin 2) (T : Fin 8192) (r q : Fin 512) (hd : d.val = win0_8.index t 0)
    (hT : T.val = win0_8.index t 1 * 512 + r.val) :
    blkConv (blkLin (iblk m c 0 t) (iblk m c 3 t) (View.ld (iblk m c 4 t) r0_6 (ix3 0 0 q)) q)
      (View.ld (iblk m c 5 t) r0_7 (ix3 0 0 q)) (View.ld (iblk m c 5 t) r0_7 (ix3 0 1 q))
      (View.ld (iblk m c 5 t) r0_7 (ix3 0 2 q)) (View.ld (iblk m c 6 t) r0_6 (ix3 0 0 q)) r
    = conv 3072 4112 (by decide) (m ((c : Thread nD τ).loc main_arg0)) (m ((c : Thread nD τ).loc main_arg1))
      (m ((c : Thread nD τ).loc main_arg2)) (m ((c : Thread nD τ).loc main_arg3)) (m ((c : Thread nD τ).loc main_arg4)) d T
      ⟨2048 + (win0_8.index t 2 * 512 + q.val), col_lt 2 (places8 t) q⟩ := by
  have hp := places8 t
  obtain ⟨d, hd'⟩ := d
  dsimp only at hd
  subst hd
  refine conv_block (n := 3072) (o := 4112) (by decide) _ _ _ _ _ ⟨win0_8.index t 0, hd'⟩ T
    ⟨2048 + (win0_8.index t 2 * 512 + q.val), col_lt 2 (places8 t) q⟩ (win0_8.index t 1) r hT
    (places8 t).2.2.2.2.2.2.2.2.1 _ (fun s => ?_) _ _ _ _ ?_ ?_ ?_ ?_
  · unfold lin blkLin
    pointwise
    blk_point [iblk, V, places8 t]
  all_goals
    pointwise
    blk_point [iblk, V, places8 t]

/-- The second result of the call. -/
theorem array8 (c : Dev nD) : (dats m 0 c).arrAt 8 cfg0.N = prod
      (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t hf y => ?_
  unfold prod
  blk_simp
  rw [after0_8]
  frame_out
  unfold k0_pay15
  frame_out
  refine (product_block (iblk m c 0 t) (iblk m c 2 t) (iblk m c 3 t) (View.ld (iblk m c 4 t) r0_4) (View.ld (iblk m c 4 t) r0_6)
    (View.ld (iblk m c 5 t) r0_5) (View.ld (iblk m c 5 t) r0_7) (View.ld (iblk m c 6 t) r0_4) (View.ld (iblk m c 6 t) r0_6) y).trans ?_
  refine (congrArg₂ (fun a b : EReal => a * b)
    (second m c t (((cfg0.win 8).blk t).view.emb y 0) (((cfg0.win 8).blk t).view.emb y 1) (y 1) (y 2) ?_ ?_)
    (third m c t (((cfg0.win 8).blk t).view.emb y 0) (((cfg0.win 8).blk t).view.emb y 1) (y 1) (y 2) ?_ ?_)).trans ?_
  · blk_simp
  · blk_simp
  · blk_simp
  · blk_simp
  · rfl

end Cert.HyenaIdeal.Whole
-- ==== Proof.HyenaRef.lean ====
/-
  The reference's convolved columns: the joint projection, cut to 3072 columns, laid out in rows of 64 tokens with a zero
  before and after each, weighted and summed, is the short convolution.
-/
module

public import proofs.«01_k».proof.Proof.Proj
public import proofs.«01_k».proof.Proof.Gen.HyenaRefIdeal.Read

@[expose] public section

set_option maxRecDepth 16384

noncomputable section

namespace Cert.HyenaRefIdeal.Whole

open Idealize.ShloMosaic Cert.HyenaRefIdeal Cert.HyenaRefIdeal.Read Cert.Mix

/-- The integer zero of the reference's padding, as a number. -/
theorem zero_word : (FloatOps.sitofp (F := Ideal) .f32 0#32 : EReal) = 0 := by
  show (((0#32 : BitVec 32).toInt : ℝ) : EReal) = 0
  simp

/-- The joint projection of the reference. -/
theorem joint (h : Tok.Idx → EReal) (w : WIn.Idx → EReal) (b : BIn.Idx → EReal) :
    val_main_v4 (F := Ideal) h w b = fun i => lin h w b (i 0) (i 1) (i 2) := by
  funext i
  unfold val_main_v4 val_main_v3 val_main_v2 val_main_v1 val_main_v0 lin
  pointwise

/-- The convolved columns of the reference. -/
theorem convolved (h : Tok.Idx → EReal) (w : WIn.Idx → EReal) (b : BIn.Idx → EReal)
    (wc : (⟨2, ![3, 3072]⟩ : Shape).Idx → EReal) (bc : (⟨1, ![3072]⟩ : Shape).Idx → EReal) :
    val_main_v31 (F := Ideal) h w b wc bc = fun i => conv 3072 4112 (by decide) h w b wc bc (i 0) (i 1) (i 2) := by
  funext i
  have hc := conv_padded (n := 3072) (o := 4112) (by decide) h w b wc bc (i 0) (i 1) (i 2) _ zero_word
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_call0_v0 val_main_c
  rw [joint]
  pointwise
  exact Eq.trans (by with_reducible rfl) hc

end Cert.HyenaRefIdeal.Whole
-- ==== Proof.HyenaValue.lean ====
/-
  The projection and short convolution that feed the long convolution: three groups of 1024 columns, each projected and
  convolved along the rows of 64 tokens; the first group is a result, the product of the other two is the other. The two
  result arrays of the call and of the reference are the same functions of the arguments, and with that the claim.
-/
module

public import proofs.«01_k».proof.Proof.HyenaLead
public import proofs.«01_k».proof.Proof.HyenaProd
public import proofs.«01_k».proof.Proof.HyenaRef

@[expose] public section

set_option maxRecDepth 16384

noncomputable section

namespace Cert.HyenaIdeal.Whole

open Idealize.ShloMosaic Idealize.ShloMosaic.TcCoe Idealize.SL.Sem Cert.HyenaIdeal Cert.HyenaIdeal.Gen Cert.Mix
open Idealize.ShloMosaic.Pipeline (Dat Cfg Window)

variable (m : (ℓ : Loc nD τ sig) → Buf (Elt Ideal) ℓ)

/-- The first result of the reference. -/
theorem reference7 (h : Tok.Idx → EReal) (w : WIn.Idx → EReal) (b : BIn.Idx → EReal)
    (wc : (⟨2, ![3, 3072]⟩ : Shape).Idx → EReal) (bc : (⟨1, ![3072]⟩ : Shape).Idx → EReal) :
    Cert.HyenaRefIdeal.Read.val_main_v35 (F := Ideal) h w b wc bc = lead h w b wc bc := by
  funext i
  rw [Cert.HyenaRefIdeal.Read.val_main_v35_apply, Cert.HyenaRefIdeal.Read.val_main_v32_apply, Cert.HyenaRefIdeal.Whole.convolved]
  rfl

/-- The second result of the reference. -/
theorem reference8 (h : Tok.Idx → EReal) (w : WIn.Idx → EReal) (b : BIn.Idx → EReal)
    (wc : (⟨2, ![3, 3072]⟩ : Shape).Idx → EReal) (bc : (⟨1, ![3072]⟩ : Shape).Idx → EReal) :
    Cert.HyenaRefIdeal.Read.val_main_v36 (F := Ideal) h w b wc bc = prod h w b wc bc := by
  funext i
  rw [Cert.HyenaRefIdeal.Read.val_main_v36_apply, Cert.HyenaRefIdeal.Read.val_main_v33_apply,
    Cert.HyenaRefIdeal.Read.val_main_v34_apply, Cert.HyenaRefIdeal.Whole.convolved]
  rfl

/-- The claim: from equal arguments the two programs end with equal results. -/
theorem algebraic : Cert.algebraic_HyenaIdeal_HyenaRefIdeal (hHyenaIdeal := Cert.HyenaIdeal.Gen.facts) (hHyenaRefIdeal := Cert.HyenaRefIdeal.Gen.facts) := by
  intro m g m' g' _ hagree
  refine ⟨fun c => (dats m 0 c).arrAt 7 cfg0.N, fun c => (dats m 0 c).arrAt 8 cfg0.N, Value.run_blocks m g, ?_⟩
  refine (θ_run _ _ _).mono (fun r h c => ?_) (Cert.HyenaRefIdeal.Value.run m' g')
  obtain ⟨h0, h8, h1⟩ := h c
  obtain ⟨a0, a1, a2, a3, a4⟩ := hagree c
  refine ⟨h0.trans ?_, h8.trans ?_, h1⟩
  · rw [Cert.HyenaRefIdeal.Read.val_main_v35_eq, a0, a1, a2, a3, a4, reference7]
    exact (array7 m c).symm
  · rw [Cert.HyenaRefIdeal.Read.val_main_v36_eq, a0, a1, a2, a3, a4, reference8]
    exact (array8 m c).symm

end Cert.HyenaIdeal.Whole
-- ==== Proof.QkRef.lean ====
/-
  The reference's convolved columns: the joint projection, cut to 2048 columns, laid out in rows of 64 tokens with a zero
  before and after each, weighted and summed, is the short convolution.
-/
module

public import proofs.«01_k».proof.Proof.Proj
public import proofs.«01_k».proof.Proof.Gen.QkRefIdeal.Read

@[expose] public section

set_option maxRecDepth 16384

noncomputable section

namespace Cert.QkRefIdeal.Whole

open Idealize.ShloMosaic Cert.QkRefIdeal Cert.QkRefIdeal.Read Cert.Mix

/-- The integer zero of the reference's padding, as a number. -/
theorem zero_word : (FloatOps.sitofp (F := Ideal) .f32 0#32 : EReal) = 0 := by
  show (((0#32 : BitVec 32).toInt : ℝ) : EReal) = 0
  simp

/-- The joint projection of the reference. -/
theorem joint (h : Tok.Idx → EReal) (w : WIn.Idx → EReal) (b : BIn.Idx → EReal) :
    val_main_v4 (F := Ideal) h w b = fun i => lin h w b (i 0) (i 1) (i 2) := by
  funext i
  unfold val_main_v4 val_main_v3 val_main_v2 val_main_v1 val_main_v0 lin
  pointwise

/-- The convolved columns of the reference. -/
theorem convolved (h : Tok.Idx → EReal) (w : WIn.Idx → EReal) (b : BIn.Idx → EReal)
    (wc : (⟨2, ![3, 2048]⟩ : Shape).Idx → EReal) (bc : (⟨1, ![2048]⟩ : Shape).Idx → EReal) :
    val_main_v31 (F := Ideal) h w b wc bc = fun i => conv 2048 0 (by decide) h w b wc bc (i 0) (i 1) (i 2) := by
  funext i
  have hc := conv_padded (n := 2048) (o := 0) (by decide) h w b wc bc (i 0) (i 1) (i 2) _ zero_word
  simp only [Nat.zero_add] at hc
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_call0_v0 val_main_c
  rw [joint]
  pointwise
  exact Eq.trans (by with_reducible rfl) hc

/-- The queries and, scaled, the keys, as one array. -/
def qk (h : Tok.Idx → EReal) (w : WIn.Idx → EReal) (b : BIn.Idx → EReal)
    (wc : (⟨2, ![3, 2048]⟩ : Shape).Idx → EReal) (bc : (⟨1, ![2048]⟩ : Shape).Idx → EReal)
    (i : (⟨3, ![2, 8192, 2048]⟩ : Shape).Idx) : EReal :=
  (fun u => u * Ideal.logistic u) (conv 2048 0 (by decide) h w b wc bc (i 0) (i 1) ⟨(i 2).val, (i 2).isLt⟩)
    * (if (i 2).val < 1024 then 1 else Ideal.ofBits .f32 0x3D800000#32)

/-- The reference's `u · logistic u` of a convolved element. -/
theorem silu (h : Tok.Idx → EReal) (w : WIn.Idx → EReal) (b : BIn.Idx → EReal)
    (wc : (⟨2, ![3, 2048]⟩ : Shape).Idx → EReal) (bc : (⟨1, ![2048]⟩ : Shape).Idx → EReal) (i : S2x8192x2048.Idx) :
    val_main_v32 (F := Ideal) h w b wc bc i = (fun u => u * Ideal.logistic u)
      (conv 2048 0 (by decide) h w b wc bc (i 0) (i 1) (i 2)) := by
  rw [val_main_v32_apply, val_main_call1_v5_apply, val_main_call1_v3_apply, val_main_call1_v1_apply, val_main_call1_v0_apply,
    val_main_call1_v4_apply, val_main_call1_v2_apply, val_main_call1_cst_apply, val_main_call1_cst_0_apply, convolved]
  pointwise
  rfl

/-- The result of the reference. -/
theorem reference (h : Tok.Idx → EReal) (w : WIn.Idx → EReal) (b : BIn.Idx → EReal)
    (wc : (⟨2, ![3, 2048]⟩ : Shape).Idx → EReal) (bc : (⟨1, ![2048]⟩ : Shape).Idx → EReal) :
    val_main_v38 (F := Ideal) h w b wc bc = qk h w b wc bc := by
  funext i
  have hA := val_main_v33_apply (F := Ideal) h w b wc bc
  have hB := val_main_v36_apply (F := Ideal) h w b wc bc
  have hC := val_main_v34_apply (F := Ideal) h w b wc bc
  unfold val_main_v38 val_main_v37
  generalize val_main_v33 (F := Ideal) h w b wc bc = A at hA ⊢
  generalize val_main_v36 (F := Ideal) h w b wc bc = B at hB ⊢
  pointwise
  simp only [hA, hB, hC, silu]
  have hD : val_main_v35 (F := Ideal) = fun _ => Ideal.ofBits .f32 0x3D800000#32 := by
    funext j
    rw [val_main_v35_apply, val_main_cst_apply]
    rfl
  rw [hD]
  unfold qk
  by_cases hj : (i 2).val < 1024
  · rw [dif_pos hj, if_pos hj, mul_one]
    rfl
  · rw [dif_neg hj, if_neg hj]
    have e : idx_main_v34 (ix3 (i 0) (i 1) ⟨(i 2).val - 1024, by have h2 : (i 2).val < 2048 := (i 2).isLt; omega⟩) 2
        = ⟨(i 2).val, (i 2).isLt⟩ :=
      Fin.ext (show 1024 + ((i 2).val - 1024) = (i 2).val by omega)
    rw [e]
    rfl

end Cert.QkRefIdeal.Whole
-- ==== Proof.QkValue.lean ====
/-
  The projection of the queries and the keys with their short convolution: 2048 projected columns convolved along the
  rows of 64 tokens and passed through `u · logistic u`, the keys scaled. The result array of the call and of the reference
  are the same function of the arguments, and with that the claim.
-/
module

public import proofs.«01_k».proof.Defs
public import proofs.«01_k».proof.Proof.Proj
public import proofs.«01_k».proof.Proof.Gen.QkIdeal.Value
public import proofs.«01_k».proof.Proof.QkRef
public import Idealize.ShloMosaic.Lib.StableHlo.ReadAt

@[expose] public section

set_option maxRecDepth 16384

noncomputable section

namespace Cert.QkIdeal.Whole

open Idealize.ShloMosaic Idealize.ShloMosaic.TcCoe Idealize.SL.Sem Cert.QkIdeal Cert.QkIdeal.Gen Cert.Mix
open Cert.QkRefIdeal.Whole (qk)
open Idealize.ShloMosaic.Pipeline (Dat Cfg Window)

variable (m : (ℓ : Loc nD τ sig) → Buf (Elt Ideal) ℓ)

/-- The blocks of the arguments at a point, by the block of the result written there. -/
abbrev Places (t : Fin cfg0.N) : Prop := win0_0.index t = ![win0_6.index t 0, win0_6.index t 1, 0]
    ∧ win0_1.index t = ![0, win0_6.index t 2] ∧ win0_2.index t = ![0, win0_6.index t 2]
    ∧ win0_3.index t = ![0, win0_6.index t 2] ∧ win0_4.index t = ![0, win0_6.index t 2]
    ∧ win0_5.index t = ![0, win0_6.index t 2]
    ∧ win0_6.index t 0 < 2 ∧ win0_6.index t 1 < 16 ∧ win0_6.index t 2 < 4

/-- The places, decided over the grid. -/
theorem places (t : Fin cfg0.N) : Places t := (by decide +kernel : ∀ t : Fin grid0.N, Places t) t

/-- What the body stores, at an element, from the convolved block `u` and the block of scales `s`. -/
theorem stored (u : FVec Ideal S512x512 .f32) (s : Vec Ideal S1x512 .f32) (y : S1x512x512.Idx) :
    k0_pay1 u s y = (fun u => u * Ideal.logistic u) (u (ix2 (y 1) (y 2))) * s (ix2 0 (y 2)) := by
  unfold k0_pay1
  pointwise

/-- The convolved block, at an element, from the blocks the body loads. -/
theorem convolved (x : Vec Ideal S1x512x1024 .bf16) (w : Vec Ideal S1024x512 .bf16) (b : Vec Ideal S1x512 .f32)
    (wc : Vec Ideal S3x512 .f32) (bc : Vec Ideal S1x512 .f32) (r q : Fin 512) :
    k0_pay2 x w b wc bc (ix2 r q) = blkConv (blkLin x w (b (ix2 0 q)) q) (wc (ix2 0 q)) (wc (ix2 1 q)) (wc (ix2 2 q))
      (bc (ix2 0 q)) r := by
  unfold k0_pay2
  pointwise
  rfl

/-- The stored block, at an element, from the blocks the body loads. -/
theorem block (x : Vec Ideal S1x512x1024 .bf16) (w : Vec Ideal S1024x512 .bf16) (b : Vec Ideal S1x512 .f32)
    (wc : Vec Ideal S3x512 .f32) (bc : Vec Ideal S1x512 .f32) (s : Vec Ideal S1x512 .f32) (y : S1x512x512.Idx) :
    k0_pay1 (k0_pay2 x w b wc bc) s y = (fun u => u * Ideal.logistic u) (blkConv (blkLin x w (b (ix2 0 (y 2))) (y 2))
      (wc (ix2 0 (y 2))) (wc (ix2 1 (y 2))) (wc (ix2 2 (y 2))) (bc (ix2 0 (y 2))) (y 1)) * s (ix2 0 (y 2)) :=
  (stored _ s y).trans (congrArg (fun v : EReal => (fun u : EReal => u * Ideal.logistic u) v * s (ix2 0 (y 2)))
    (convolved x w b wc bc (y 1) (y 2)))

/-- A column of a block of the result is one of the 2048. -/
theorem col_lt (t : Fin cfg0.N) (q : Fin 512) : win0_6.index t 2 * 512 + q.val < 2048 := by
  have h := (places t).2.2.2.2.2.2.2.2
  omega

/-- The array of scales the call reads: one for the queries' columns, and the keys' scale for the keys'. -/
theorem scale_array (c : Dev nD) (j : S1x2048.Idx) : V m c main_v8 j
    = if (j 1).val < 1024 then 1 else Ideal.ofBits .f32 0x3D800000#32 := by
  unfold V
  after_reads_at
  have e2 : ∀ k, StableHlo.upto hostOps0 (fun b => m (c, b)) 5 (Proc.tc.devRef main_v2) k = (1 : EReal) := fun k => by
    after_reads_at
  have e1 : ∀ k, StableHlo.upto hostOps0 (fun b => m (c, b)) 5 (Proc.tc.devRef main_v1) k
      = Ideal.ofBits .f32 0x3D800000#32 := fun k => by
    after_reads_at
  simp only [e1, e2]
  rfl

/-- The block of scales at a point. -/
theorem scales (c : Dev nD) (t : Fin cfg0.N) (q : Fin 512) : iblk m c 5 t (ix2 0 q)
    = if win0_6.index t 2 * 512 + q.val < 1024 then 1 else Ideal.ofBits .f32 0x3D800000#32 := by
  unfold iblk
  refine (scale_array m c ((win0_5.blk t).view.emb (ix2 0 q))).trans ?_
  blk_point [places t]

/-- The result array of the call. -/
theorem array (c : Dev nD) : (dats m 0 c).arrAt 6 cfg0.N = qk
      (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  unfold qk
  blk_simp
  rw [after0_6]
  frame_out
  refine (block (iblk m c 0 t) (iblk m c 1 t) (iblk m c 2 t) (iblk m c 3 t) (iblk m c 4 t) (iblk m c 5 t) y).trans ?_
  refine congrArg₂ (fun a b : EReal => a * b) (congrArg (fun u : EReal => u * Ideal.logistic u)
    (conv_block (n := 2048) (o := 0) (by decide) _ _ _ _ _ (((cfg0.win 6).blk t).view.emb y 0)
      (((cfg0.win 6).blk t).view.emb y 1) ⟨win0_6.index t 2 * 512 + (y 2).val, col_lt t (y 2)⟩
      (win0_6.index t 1) (y 1) ?_ (places t).2.2.2.2.2.2.2.1 _ (fun s => ?_) _ _ _ _ ?_ ?_ ?_ ?_)) ?_
  · blk_simp
  · simp only [Nat.zero_add]
    unfold lin blkLin
    blk_point [iblk, V, places t]
  · blk_point [iblk, V, places t]
  · blk_point [iblk, V, places t]
  · blk_point [iblk, V, places t]
  · blk_point [iblk, V, places t]
  · exact scales m c t (y 2)

/-- The claim: from equal arguments the two programs end with equal results. -/
theorem algebraic : Cert.algebraic_QkIdeal_QkRefIdeal (hQkIdeal := Cert.QkIdeal.Gen.facts) (hQkRefIdeal := Cert.QkRefIdeal.Gen.facts) := by
  intro m g m' g' _ hagree
  refine ⟨fun c => (dats m 0 c).arrAt 6 cfg0.N, Value.run_blocks m g, ?_⟩
  refine (θ_run _ _ _).mono (fun r h c => ?_) (Cert.QkRefIdeal.Value.run m' g')
  obtain ⟨h0, h1⟩ := h c
  obtain ⟨a0, a1, a2, a3, a4⟩ := hagree c
  refine ⟨h0.trans ?_, h1⟩
  rw [Cert.QkRefIdeal.Read.val_main_v38_eq, a0, a1, a2, a3, a4, Cert.QkRefIdeal.Whole.reference]
  exact (array m c).symm

end Cert.QkIdeal.Whole
-- ==== Proof.GabValue.lean ====
/-
  The two branch gates: the result array of the call and the result array of the reference are the same function of the
  arguments, and with that the claim that the two programs return equal arrays.
-/
module

public import proofs.«01_k».proof.Defs
public import proofs.«01_k».proof.Proof.Proj
public import proofs.«01_k».proof.Proof.Gen.GabIdeal.Value
public import proofs.«01_k».proof.Proof.Gen.GabRefIdeal.Read

@[expose] public section

set_option maxRecDepth 16384

noncomputable section

namespace Cert.GabIdeal.Whole

open Idealize.ShloMosaic Idealize.ShloMosaic.TcCoe Idealize.SL.Sem Cert.GabIdeal Cert.GabIdeal.Gen Cert.Mix
open Idealize.ShloMosaic.Pipeline (Dat Cfg Window)

variable (m : (ℓ : Loc nD τ sig) → Buf (Elt Ideal) ℓ)

/-- The blocks of the tokens, of the weight and of the bias at a point, by the block of the result written there. -/
theorem idx (t : Fin cfg0.N) : win0_0.index t = ![win0_3.index t 0, win0_3.index t 1, 0]
    ∧ win0_1.index t = ![0, win0_3.index t 2] ∧ win0_2.index t = ![0, win0_3.index t 2]
    ∧ win0_3.index t 0 < 2 ∧ win0_3.index t 1 < 16 ∧ win0_3.index t 2 < 4 :=
  (by decide +kernel : ∀ t : Fin grid0.N, win0_0.index t = ![win0_3.index t 0, win0_3.index t 1, 0]
    ∧ win0_1.index t = ![0, win0_3.index t 2] ∧ win0_2.index t = ![0, win0_3.index t 2]
    ∧ win0_3.index t 0 < 2 ∧ win0_3.index t 1 < 16 ∧ win0_3.index t 2 < 4) t

/-- The result array of the call: The two branch gates of the tokens. -/
theorem array (c : Dev nD) : (dats m 0 c).arrAt 3 cfg0.N = fun i => Ideal.logistic (cols 2048 7184 (by decide)
      (m ((c : Thread nD τ).loc main_arg0)) (m ((c : Thread nD τ).loc main_arg1)) (m ((c : Thread nD τ).loc main_arg2)) i) := by
  refine (dats m 0 c).arrAt_eq_of_covers 3 _ (by decide +kernel) fun t hf y => ?_
  blk_simp
  rw [after0_3]
  frame_out
  unfold_payloads
  unfold cols lin
  pointwise
  blk_point [iblk, V, idx t]

/-- The result array of the reference: the same. -/
theorem reference (h : Tok.Idx → EReal) (w : WIn.Idx → EReal) (b : BIn.Idx → EReal) :
    Cert.GabRefIdeal.Read.val_main_v20 (F := Ideal) h w b = fun i => Ideal.logistic (cols 2048 7184 (by decide) h w b i) := by
  funext i
  unfold cols lin
  rw [← Cert.GabRefIdeal.Read.val_main_v20_eq]
  pointwise
  split
  · rfl
  · next hj =>
    have e : 8208 + ((i 2).val - 1024) = 7184 + (i 2).val := by omega
    simp only [e]
    rfl

/-- The claim: from equal arguments the two programs end with equal results. -/
theorem algebraic : Cert.algebraic_GabIdeal_GabRefIdeal (hGabIdeal := Cert.GabIdeal.Gen.facts) (hGabRefIdeal := Cert.GabRefIdeal.Gen.facts) := by
  intro m g m' g' _ hagree
  refine ⟨fun c => (dats m 0 c).arrAt 3 cfg0.N, Value.run_blocks m g, ?_⟩
  refine (θ_run _ _ _).mono (fun r h c => ?_) (Cert.GabRefIdeal.Value.run m' g')
  obtain ⟨h0, h1⟩ := h c
  refine ⟨h0.trans ?_, h1⟩
  rw [Cert.GabRefIdeal.Read.val_main_v20_eq, (hagree c).1, (hagree c).2.1, (hagree c).2.2, reference]
  exact (array m c).symm

end Cert.GabIdeal.Whole
-- ==== Proof.OgValue.lean ====
/-
  The output gate: the result array of the call and the result array of the reference are the same function of the
  arguments, and with that the claim that the two programs return equal arrays.
-/
module

public import proofs.«01_k».proof.Defs
public import proofs.«01_k».proof.Proof.Proj
public import proofs.«01_k».proof.Proof.Gen.OgIdeal.Value
public import proofs.«01_k».proof.Proof.Gen.OgRefIdeal.Read

@[expose] public section

set_option maxRecDepth 16384

noncomputable section

namespace Cert.OgIdeal.Whole

open Idealize.ShloMosaic Idealize.ShloMosaic.TcCoe Idealize.SL.Sem Cert.OgIdeal Cert.OgIdeal.Gen Cert.Mix
open Idealize.ShloMosaic.Pipeline (Dat Cfg Window)

variable (m : (ℓ : Loc nD τ sig) → Buf (Elt Ideal) ℓ)

/-- The blocks of the tokens, of the weight and of the bias at a point, by the block of the result written there. -/
theorem idx (t : Fin cfg0.N) : win0_0.index t = ![win0_3.index t 0, win0_3.index t 1, 0]
    ∧ win0_1.index t = ![0, win0_3.index t 2] ∧ win0_2.index t = ![0, win0_3.index t 2]
    ∧ win0_3.index t 0 < 2 ∧ win0_3.index t 1 < 16 ∧ win0_3.index t 2 < 2 :=
  (by decide +kernel : ∀ t : Fin grid0.N, win0_0.index t = ![win0_3.index t 0, win0_3.index t 1, 0]
    ∧ win0_1.index t = ![0, win0_3.index t 2] ∧ win0_2.index t = ![0, win0_3.index t 2]
    ∧ win0_3.index t 0 < 2 ∧ win0_3.index t 1 < 16 ∧ win0_3.index t 2 < 2) t

/-- The result array of the call: The output gate of the tokens. -/
theorem array (c : Dev nD) : (dats m 0 c).arrAt 3 cfg0.N = fun i => Ideal.logistic (cols 1024 3072 (by decide)
      (m ((c : Thread nD τ).loc main_arg0)) (m ((c : Thread nD τ).loc main_arg1)) (m ((c : Thread nD τ).loc main_arg2)) i) := by
  refine (dats m 0 c).arrAt_eq_of_covers 3 _ (by decide +kernel) fun t hf y => ?_
  blk_simp
  rw [after0_3]
  frame_out
  unfold_payloads
  unfold cols lin
  pointwise
  blk_point [iblk, V, idx t]

/-- The result array of the reference: the same. -/
theorem reference (h : Tok.Idx → EReal) (w : WIn.Idx → EReal) (b : BIn.Idx → EReal) :
    Cert.OgRefIdeal.Read.val_main_v12 (F := Ideal) h w b = fun i => Ideal.logistic (cols 1024 3072 (by decide) h w b i) := by
  funext i
  unfold cols lin
  rw [← Cert.OgRefIdeal.Read.val_main_v12_eq]
  pointwise
  rfl

/-- The claim: from equal arguments the two programs end with equal results. -/
theorem algebraic : Cert.algebraic_OgIdeal_OgRefIdeal (hOgIdeal := Cert.OgIdeal.Gen.facts) (hOgRefIdeal := Cert.OgRefIdeal.Gen.facts) := by
  intro m g m' g' _ hagree
  refine ⟨fun c => (dats m 0 c).arrAt 3 cfg0.N, Value.run_blocks m g, ?_⟩
  refine (θ_run _ _ _).mono (fun r h c => ?_) (Cert.OgRefIdeal.Value.run m' g')
  obtain ⟨h0, h1⟩ := h c
  refine ⟨h0.trans ?_, h1⟩
  rw [Cert.OgRefIdeal.Read.val_main_v12_eq, (hagree c).1, (hagree c).2.1, (hagree c).2.2, reference]
  exact (array m c).symm

end Cert.OgIdeal.Whole
-- ==== Proof.ValValue.lean ====
/-
  The values: the result array of the call and the result array of the reference are the same function of the
  arguments, and with that the claim that the two programs return equal arrays.
-/
module

public import proofs.«01_k».proof.Defs
public import proofs.«01_k».proof.Proof.Proj
public import proofs.«01_k».proof.Proof.Gen.ValIdeal.Value
public import proofs.«01_k».proof.Proof.Gen.ValRefIdeal.Read

@[expose] public section

set_option maxRecDepth 16384

noncomputable section

namespace Cert.ValIdeal.Whole

open Idealize.ShloMosaic Idealize.ShloMosaic.TcCoe Idealize.SL.Sem Cert.ValIdeal Cert.ValIdeal.Gen Cert.Mix
open Idealize.ShloMosaic.Pipeline (Dat Cfg Window)

variable (m : (ℓ : Loc nD τ sig) → Buf (Elt Ideal) ℓ)

/-- The blocks of the tokens, of the weight and of the bias at a point, by the block of the result written there. -/
theorem idx (t : Fin cfg0.N) : win0_0.index t = ![win0_3.index t 0, win0_3.index t 1, 0]
    ∧ win0_1.index t = ![0, win0_3.index t 2] ∧ win0_2.index t = ![0, win0_3.index t 2]
    ∧ win0_3.index t 0 < 2 ∧ win0_3.index t 1 < 16 ∧ win0_3.index t 2 < 2 :=
  (by decide +kernel : ∀ t : Fin grid0.N, win0_0.index t = ![win0_3.index t 0, win0_3.index t 1, 0]
    ∧ win0_1.index t = ![0, win0_3.index t 2] ∧ win0_2.index t = ![0, win0_3.index t 2]
    ∧ win0_3.index t 0 < 2 ∧ win0_3.index t 1 < 16 ∧ win0_3.index t 2 < 2) t

/-- The result array of the call: The values of the tokens. -/
theorem array (c : Dev nD) : (dats m 0 c).arrAt 3 cfg0.N = fun i => (cols 1024 2048 (by decide)
      (m ((c : Thread nD τ).loc main_arg0)) (m ((c : Thread nD τ).loc main_arg1)) (m ((c : Thread nD τ).loc main_arg2)) i) := by
  refine (dats m 0 c).arrAt_eq_of_covers 3 _ (by decide +kernel) fun t hf y => ?_
  blk_simp
  rw [after0_3]
  frame_out
  unfold_payloads
  unfold cols lin
  pointwise
  blk_point [iblk, V, idx t]

/-- The result array of the reference: the same. -/
theorem reference (h : Tok.Idx → EReal) (w : WIn.Idx → EReal) (b : BIn.Idx → EReal) :
    Cert.ValRefIdeal.Read.val_main_v6 (F := Ideal) h w b = fun i => (cols 1024 2048 (by decide) h w b i) := by
  funext i
  unfold cols lin
  rw [← Cert.ValRefIdeal.Read.val_main_v6_eq]
  pointwise

/-- The claim: from equal arguments the two programs end with equal results. -/
theorem algebraic : Cert.algebraic_ValIdeal_ValRefIdeal (hValIdeal := Cert.ValIdeal.Gen.facts) (hValRefIdeal := Cert.ValRefIdeal.Gen.facts) := by
  intro m g m' g' _ hagree
  refine ⟨fun c => (dats m 0 c).arrAt 3 cfg0.N, Value.run_blocks m g, ?_⟩
  refine (θ_run _ _ _).mono (fun r h c => ?_) (Cert.ValRefIdeal.Value.run m' g')
  obtain ⟨h0, h1⟩ := h c
  refine ⟨h0.trans ?_, h1⟩
  rw [Cert.ValRefIdeal.Read.val_main_v6_eq, (hagree c).1, (hagree c).2.1, (hagree c).2.2, reference]
  exact (array m c).symm

end Cert.ValIdeal.Whole
-- ==== Proof.MergeRow.lean ====
/-
  The merge of the two branches at one token: the gated first branch and the long-convolution branch through their weights,
  mixed by the gates, projected and added to the token; and the normalised, modulated token.
-/
module

public import Idealize.ShloMosaic.Lib.Pipeline.ValueKit
public import Idealize.ShloMosaic.PureOps.Ideal.Laws

@[expose] public section

noncomputable section

namespace Cert.Mix

open Idealize.ShloMosaic

/-- The 1024 channels of one token. -/
abbrev Row := Fin 1024 → EReal
/-- A weight of 1024 by 1024. -/
abbrev Mat := Fin 1024 → Fin 1024 → EReal

/-- The first branch: the sum of the two directions under the output gate, through its weight. -/
def branchA (o hf hb : Row) (W : Mat) : Row := fun j => ∑ k : Fin 1024, o k * (hf k + hb k) * W k j

/-- The long-convolution branch before its weight. -/
def hyenaRow (x0 y ys hb s : Row) : Row := fun k => x0 k * (y k * ys k + hb k * s k)

/-- The token after the merge. -/
def mergedRow (A u : Row) (Wb : Mat) (ga gb : Row) (Wo : Mat) (x g : Row) : Row := fun j =>
  x j + g j * ∑ k : Fin 1024, (ga k * A k + gb k * ∑ l : Fin 1024, u l * Wb l k) * Wo k j

/-- The merged token from everything it is made of. -/
def merged (hf hb o x0 s y ga gb x ys hbias g : Row) (Wa Wb Wo : Mat) : Row :=
  mergedRow (branchA o hf hb Wa) (hyenaRow x0 y ys hbias s) Wb ga gb Wo x g

/-- The merged token normalised by its mean square and modulated. -/
def modulated (z g2 sc sh : Row) : Row := fun j =>
  z j * Ideal.rsqrt (Ideal.div (∑ k : Fin 1024, z k * z k) (Ideal.ofBits .f32 0x44800000#32) + Ideal.ofBits .f32 0x358637BD#32)
    * g2 j * (1 + sc j) + sh j

/-- The arrays the merge is made of. -/
structure MergeArgs where
  /-- The two directions of the first branch. -/
  dirs : (⟨4, ![2, 2, 8192, 1024]⟩ : Shape).Idx → EReal
  /-- The output gate. -/
  o : (⟨3, ![2, 8192, 1024]⟩ : Shape).Idx → EReal
  /-- The multiplier of the long convolution. -/
  x0 : (⟨3, ![2, 8192, 1024]⟩ : Shape).Idx → EReal
  /-- The sequence the long convolution was taken of. -/
  s : (⟨3, ![2, 8192, 1024]⟩ : Shape).Idx → EReal
  /-- The long convolution. -/
  y : (⟨3, ![2, 8192, 1024]⟩ : Shape).Idx → EReal
  /-- The gates of the two branches, side by side. -/
  gates : (⟨3, ![2, 8192, 2048]⟩ : Shape).Idx → EReal
  /-- The tokens. -/
  x : (⟨3, ![2, 8192, 1024]⟩ : Shape).Idx → EReal
  /-- The scale of the long convolution. -/
  ys : (⟨2, ![1, 1024]⟩ : Shape).Idx → EReal
  /-- The long convolution's bias. -/
  hbias : (⟨1, ![1024]⟩ : Shape).Idx → EReal
  /-- The residual gate. -/
  gate : (⟨3, ![2, 1, 1024]⟩ : Shape).Idx → EReal
  /-- The first branch's weight. -/
  wa : (⟨2, ![1024, 1024]⟩ : Shape).Idx → EReal
  /-- The second branch's weight. -/
  wb : (⟨2, ![1024, 1024]⟩ : Shape).Idx → EReal
  /-- The output weight. -/
  wo : (⟨2, ![1024, 1024]⟩ : Shape).Idx → EReal

/-- Token `t` of sequence `d` after the merge. -/
def MergeArgs.token (a : MergeArgs) (d : Fin 2) (t : Fin 8192) : Row :=
  merged (fun k => a.dirs (ix4 0 d t k)) (fun k => a.dirs (ix4 1 d t k)) (fun k => a.o (ix3 d t k)) (fun k => a.x0 (ix3 d t k))
    (fun k => a.s (ix3 d t k)) (fun k => a.y (ix3 d t k)) (fun k => a.gates (ix3 d t ⟨k.val, by omega⟩))
    (fun k => a.gates (ix3 d t ⟨1024 + k.val, by omega⟩)) (fun k => a.x (ix3 d t k)) (fun k => a.ys (ix2 0 k))
    (fun k => a.hbias (ix1 k)) (fun k => a.gate (ix3 d 0 k)) (fun k l => a.wa (ix2 k l)) (fun k l => a.wb (ix2 k l))
    (fun k l => a.wo (ix2 k l))

/-- Equal rows and weights merge to equal tokens. -/
theorem merged_congr {hf hf' hb hb' o o' x0 x0' s s' y y' ga ga' gb gb' x x' ys ys' hbias hbias' g g' : Row}
    {Wa Wa' Wb Wb' Wo Wo' : Mat} (h0 : ∀ k, hf k = hf' k) (h1 : ∀ k, hb k = hb' k) (h2 : ∀ k, o k = o' k)
    (h3 : ∀ k, x0 k = x0' k) (h4 : ∀ k, s k = s' k) (h5 : ∀ k, y k = y' k) (h6 : ∀ k, ga k = ga' k) (h7 : ∀ k, gb k = gb' k)
    (h8 : ∀ k, x k = x' k) (h9 : ∀ k, ys k = ys' k) (h10 : ∀ k, hbias k = hbias' k) (h11 : ∀ k, g k = g' k)
    (h12 : ∀ k l, Wa k l = Wa' k l) (h13 : ∀ k l, Wb k l = Wb' k l) (h14 : ∀ k l, Wo k l = Wo' k l) :
    merged hf hb o x0 s y ga gb x ys hbias g Wa Wb Wo = merged hf' hb' o' x0' s' y' ga' gb' x' ys' hbias' g' Wa' Wb' Wo' := by
  obtain rfl := funext h0
  obtain rfl := funext h1
  obtain rfl := funext h2
  obtain rfl := funext h3
  obtain rfl := funext h4
  obtain rfl := funext h5
  obtain rfl := funext h6
  obtain rfl := funext h7
  obtain rfl := funext h8
  obtain rfl := funext h9
  obtain rfl := funext h10
  obtain rfl := funext h11
  obtain rfl := funext fun k => funext (h12 k)
  obtain rfl := funext fun k => funext (h13 k)
  obtain rfl := funext fun k => funext (h14 k)
  rfl

/-- Equal rows modulate to equal rows. -/
theorem modulated_congr {z z' g2 g2' sc sc' sh sh' : Row} (h0 : z = z') (h1 : ∀ k, g2 k = g2' k) (h2 : ∀ k, sc k = sc' k)
    (h3 : ∀ k, sh k = sh' k) : modulated z g2 sc sh = modulated z' g2' sc' sh' := by
  subst h0
  obtain rfl := funext h1
  obtain rfl := funext h2
  obtain rfl := funext h3
  rfl

end Cert.Mix
-- ==== Proof.MergeBlock.lean ====
/-
  The blocks of the merge: what the body computes from the blocks it loads, token by token.
-/
module

public import proofs.«01_k».proof.Defs
public import proofs.«01_k».proof.Proof.MergeRow
public import proofs.«01_k».proof.Proof.Gen.MergeIdeal.Value

@[expose] public section

set_option maxRecDepth 16384

noncomputable section

namespace Cert.MergeIdeal.Whole

open Idealize.ShloMosaic Idealize.ShloMosaic.TcCoe Idealize.SL.Sem Cert.MergeIdeal Cert.MergeIdeal.Gen Cert.Mix
open Idealize.ShloMosaic.Pipeline (Dat Cfg Window)

/-- The first branch of a block. -/
theorem pay2_row (o : Vec Ideal S1x256x1024 .bf16) (hf hb : Vec Ideal S1x1x256x1024 .f32) (w : Vec Ideal S1024x1024 .bf16)
    (r : Fin 256) (j : Fin 1024) : k0_pay2 o hf hb w (ix2 r j) = branchA (fun k => o (ix3 0 r k)) (fun k => hf (ix4 0 0 r k))
      (fun k => hb (ix4 0 0 r k)) (fun k l => w (ix2 k l)) j := by
  unfold k0_pay2 branchA
  pointwise

/-- The long-convolution branch of a block. -/
theorem pay3_row (s : Vec Ideal S1x256x1024 .f32) (x0 : Vec Ideal S1x256x1024 .bf16) (y : Vec Ideal S1x256x1024 .f32)
    (ys hb : Vec Ideal S1x1024 .f32) (r : Fin 256) (j : Fin 1024) : k0_pay3 s x0 y ys hb (ix2 r j)
      = hyenaRow (fun k => x0 (ix3 0 r k)) (fun k => y (ix3 0 r k)) (fun k => ys (ix2 0 k)) (fun k => hb (ix2 0 k))
        (fun k => s (ix3 0 r k)) j := by
  unfold k0_pay3 hyenaRow
  pointwise

/-- The merged block from the two branches. -/
theorem pay4_row (A : FVec Ideal S256x1024 .f32) (u : FVec Ideal S256x1024 .bf16) (wb : Vec Ideal S1024x1024 .bf16)
    (ga gb : Vec Ideal S1x256x1024 .bf16) (wo : Vec Ideal S1024x1024 .bf16) (x : Vec Ideal S1x256x1024 .f32)
    (g : Vec Ideal S1x1x1024 .f32) (r : Fin 256) (j : Fin 1024) : k0_pay4 A u wb ga gb wo x g (ix2 r j)
      = mergedRow (fun k => A (ix2 r k)) (fun k => u (ix2 r k)) (fun k l => wb (ix2 k l)) (fun k => ga (ix3 0 r k))
        (fun k => gb (ix3 0 r k)) (fun k l => wo (ix2 k l)) (fun k => x (ix3 0 r k)) (fun k => g (ix3 0 0 k)) j := by
  unfold k0_pay4 mergedRow
  pointwise

/-- The stored merged block is the merged block. -/
theorem pay5_row (A : FVec Ideal S256x1024 .f32) (u : FVec Ideal S256x1024 .bf16) (wb : Vec Ideal S1024x1024 .bf16)
    (ga gb : Vec Ideal S1x256x1024 .bf16) (wo : Vec Ideal S1024x1024 .bf16) (x : Vec Ideal S1x256x1024 .f32)
    (g : Vec Ideal S1x1x1024 .f32) (y : S1x256x1024.Idx) :
    k0_pay5 A u wb ga gb wo x g y = k0_pay4 A u wb ga gb wo x g (ix2 (y 1) (y 2)) := by
  unfold k0_pay5
  pointwise

/-- The stored modulated block, from the merged block. -/
theorem pay1_row (A : FVec Ideal S256x1024 .f32) (u : FVec Ideal S256x1024 .bf16) (wb : Vec Ideal S1024x1024 .bf16)
    (ga gb : Vec Ideal S1x256x1024 .bf16) (wo : Vec Ideal S1024x1024 .bf16) (x : Vec Ideal S1x256x1024 .f32)
    (g : Vec Ideal S1x1x1024 .f32) (g2 : Vec Ideal S1x1024 .f32) (sc sh : Vec Ideal S1x1x1024 .f32) (y : S1x256x1024.Idx) :
    k0_pay1 (k0_pay6 A u wb ga gb wo x g) g2 sc sh y = modulated (fun k => k0_pay4 A u wb ga gb wo x g (ix2 (y 1) k))
      (fun k => g2 (ix2 0 k)) (fun k => sc (ix3 0 0 k)) (fun k => sh (ix3 0 0 k)) (y 2) := by
  unfold k0_pay1 k0_pay6 modulated
  generalize k0_pay4 A u wb ga gb wo x g = z
  pointwise

/-- The merged block from the blocks the body loads. -/
theorem block_row (hf hb : Vec Ideal S1x1x256x1024 .f32) (o x0 : Vec Ideal S1x256x1024 .bf16)
    (s y : Vec Ideal S1x256x1024 .f32) (ga gb : Vec Ideal S1x256x1024 .bf16) (x : Vec Ideal S1x256x1024 .f32)
    (ys hbias : Vec Ideal S1x1024 .f32) (g : Vec Ideal S1x1x1024 .f32) (wa wb wo : Vec Ideal S1024x1024 .bf16) (r : Fin 256) (j : Fin 1024) :
    k0_pay4 (k0_pay2 o hf hb wa) (k0_pay3 s x0 y ys hbias) wb ga gb wo x g (ix2 r j)
      = merged (fun k => hf (ix4 0 0 r k)) (fun k => hb (ix4 0 0 r k)) (fun k => o (ix3 0 r k)) (fun k => x0 (ix3 0 r k))
        (fun k => s (ix3 0 r k)) (fun k => y (ix3 0 r k)) (fun k => ga (ix3 0 r k)) (fun k => gb (ix3 0 r k))
        (fun k => x (ix3 0 r k)) (fun k => ys (ix2 0 k)) (fun k => hbias (ix2 0 k)) (fun k => g (ix3 0 0 k))
        (fun k l => wa (ix2 k l)) (fun k l => wb (ix2 k l)) (fun k l => wo (ix2 k l)) j := by
  rw [pay4_row]
  unfold merged
  simp only [pay2_row, pay3_row]

/-- What the body stores as the merged block. -/
theorem stored18 (hf hb : Vec Ideal S1x1x256x1024 .f32) (o x0 : Vec Ideal S1x256x1024 .bf16)
    (s y : Vec Ideal S1x256x1024 .f32) (ga gb : Vec Ideal S1x256x1024 .bf16) (x : Vec Ideal S1x256x1024 .f32)
    (ys hbias : Vec Ideal S1x1024 .f32) (g : Vec Ideal S1x1x1024 .f32) (wa wb wo : Vec Ideal S1024x1024 .bf16) (r : Fin 256) (Y : S1x256x1024.Idx) (hr : Y 1 = r) :
    k0_pay5 (k0_pay2 o hf hb wa) (k0_pay3 s x0 y ys hbias) wb ga gb wo x g Y
      = merged (fun k => hf (ix4 0 0 r k)) (fun k => hb (ix4 0 0 r k)) (fun k => o (ix3 0 r k)) (fun k => x0 (ix3 0 r k))
        (fun k => s (ix3 0 r k)) (fun k => y (ix3 0 r k)) (fun k => ga (ix3 0 r k)) (fun k => gb (ix3 0 r k))
        (fun k => x (ix3 0 r k)) (fun k => ys (ix2 0 k)) (fun k => hbias (ix2 0 k)) (fun k => g (ix3 0 0 k))
        (fun k l => wa (ix2 k l)) (fun k l => wb (ix2 k l)) (fun k l => wo (ix2 k l)) (Y 2) := by
  subst hr
  rw [pay5_row]
  exact block_row hf hb o x0 s y ga gb x ys hbias g wa wb wo (Y 1) (Y 2)

/-- What the body stores as the modulated block. -/
theorem stored19 (hf hb : Vec Ideal S1x1x256x1024 .f32) (o x0 : Vec Ideal S1x256x1024 .bf16)
    (s y : Vec Ideal S1x256x1024 .f32) (ga gb : Vec Ideal S1x256x1024 .bf16) (x : Vec Ideal S1x256x1024 .f32)
    (ys hbias : Vec Ideal S1x1024 .f32) (g : Vec Ideal S1x1x1024 .f32) (wa wb wo : Vec Ideal S1024x1024 .bf16) (g2 : Vec Ideal S1x1024 .f32) (sc sh : Vec Ideal S1x1x1024 .f32)
    (r : Fin 256) (Y : S1x256x1024.Idx) (hr : Y 1 = r) :
    k0_pay1 (k0_pay6 (k0_pay2 o hf hb wa) (k0_pay3 s x0 y ys hbias) wb ga gb wo x g) g2 sc sh Y
      = modulated (merged (fun k => hf (ix4 0 0 r k)) (fun k => hb (ix4 0 0 r k)) (fun k => o (ix3 0 r k)) (fun k => x0 (ix3 0 r k))
        (fun k => s (ix3 0 r k)) (fun k => y (ix3 0 r k)) (fun k => ga (ix3 0 r k)) (fun k => gb (ix3 0 r k))
        (fun k => x (ix3 0 r k)) (fun k => ys (ix2 0 k)) (fun k => hbias (ix2 0 k)) (fun k => g (ix3 0 0 k))
        (fun k l => wa (ix2 k l)) (fun k l => wb (ix2 k l)) (fun k l => wo (ix2 k l))) (fun k => g2 (ix2 0 k)) (fun k => sc (ix3 0 0 k)) (fun k => sh (ix3 0 0 k)) (Y 2) := by
  subst hr
  rw [pay1_row]
  exact congrFun (modulated_congr (funext fun k => block_row hf hb o x0 s y ga gb x ys hbias g wa wb wo (Y 1) k)
    (fun _ => rfl) (fun _ => rfl) (fun _ => rfl)) (Y 2)

end Cert.MergeIdeal.Whole
-- ==== Proof.MergeRef.lean ====
/-
  The results of the merge's reference: at each token the merged token, and the merged token normalised and modulated.
-/
module

public import proofs.«01_k».proof.Proof.MergeRow
public import proofs.«01_k».proof.Proof.Gen.MergeRefIdeal.Read

@[expose] public section

set_option maxRecDepth 16384

noncomputable section

namespace Cert.MergeRefIdeal.Whole

open Idealize.ShloMosaic Cert.MergeRefIdeal Cert.MergeRefIdeal.Read Cert.Mix

/-- The merged tokens of the reference. -/
theorem reference18 (a : MergeArgs) : val_main_v28 (F := Ideal) a.dirs a.o a.x0 a.s a.y a.gates a.x a.ys a.hbias a.gate a.wa a.wb a.wo = fun i => a.token (i 0) (i 1) (i 2) := by
  funext i
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 MergeArgs.token merged mergedRow branchA hyenaRow
  pointwise

/-- The modulated tokens of the reference. -/
theorem reference19 (a : MergeArgs) (g2 : (⟨1, ![1024]⟩ : Shape).Idx → EReal) (sh sc : (⟨3, ![2, 1, 1024]⟩ : Shape).Idx → EReal) :
    val_main_v47 (F := Ideal) a.dirs a.o a.x0 a.s a.y a.gates a.x a.ys a.hbias a.gate g2 sh sc a.wa a.wb a.wo
      = fun i => modulated (a.token (i 0) (i 1)) (fun k => g2 (ix1 k)) (fun k => sc (ix3 (i 0) 0 k)) (fun k => sh (ix3 (i 0) 0 k)) (i 2) := by
  funext i
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_cst val_main_cst_0 val_main_cst_1 val_main_cst_2
  rw [reference18]
  unfold modulated
  generalize a.token = z
  pointwise

end Cert.MergeRefIdeal.Whole
-- ==== Proof.MergeValue.lean ====
/-
  The merge: the result arrays of the call and of the reference are the same functions of the arguments, and with that the
  claim that the two programs return equal arrays.
-/
module

public import proofs.«01_k».proof.Proof.MergeBlock
public import proofs.«01_k».proof.Proof.MergeRef

@[expose] public section

set_option maxRecDepth 16384

noncomputable section

namespace Cert.MergeIdeal.Whole

open Idealize.ShloMosaic Idealize.ShloMosaic.TcCoe Idealize.SL.Sem Cert.MergeIdeal Cert.MergeIdeal.Gen Cert.Mix
open Idealize.ShloMosaic.Pipeline (Dat Cfg Window)

variable (m : (ℓ : Loc nD τ sig) → Buf (Elt Ideal) ℓ)

/-- The blocks of the arguments at a point, by the block `p` of a result written there. -/
abbrev Places (p : Fin 3 → Nat) (t : Fin cfg0.N) : Prop := win0_0.index t = ![0, p 0, p 1, 0]
    ∧ win0_1.index t = ![1, p 0, p 1, 0]
    ∧ win0_2.index t = ![p 0, p 1, 0]
    ∧ win0_3.index t = ![p 0, p 1, 0]
    ∧ win0_4.index t = ![p 0, p 1, 0]
    ∧ win0_5.index t = ![p 0, p 1, 0]
    ∧ win0_6.index t = ![p 0, p 1, 0]
    ∧ win0_7.index t = ![p 0, p 1, 1]
    ∧ win0_8.index t = ![p 0, p 1, 0]
    ∧ win0_9.index t = ![0, 0]
    ∧ win0_10.index t = ![0, 0]
    ∧ win0_12.index t = ![0, 0]
    ∧ win0_15.index t = ![0, 0]
    ∧ win0_16.index t = ![0, 0]
    ∧ win0_17.index t = ![0, 0]
    ∧ win0_11.index t = ![p 0, 0, 0]
    ∧ win0_13.index t = ![p 0, 0, 0]
    ∧ win0_14.index t = ![p 0, 0, 0]
    ∧ p 0 < 2
    ∧ p 1 < 32
    ∧ p 2 = 0

/-- The places, by the block of the first result. -/
theorem places18 (t : Fin cfg0.N) : Places (win0_18.index t) t :=
  (by decide +kernel : ∀ t : Fin grid0.N, Places (win0_18.index t) t) t

/-- The places, by the block of the second result. -/
theorem places19 (t : Fin cfg0.N) : win0_19.index t = win0_18.index t :=
  (by decide +kernel : ∀ t : Fin grid0.N, win0_19.index t = win0_18.index t) t

/-- The arrays the call merges. -/
abbrev args (c : Dev nD) : MergeArgs :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg13), m ((c : Thread nD τ).loc main_arg14),
    m ((c : Thread nD τ).loc main_arg15)⟩

/-- Row `r` of the blocks at a point is one token's rows. -/
theorem token_eq (c : Dev nD) (t : Fin cfg0.N) (r : Fin 256) (d : Fin 2) (T : Fin 8192) (hd : d.val = win0_18.index t 0)
    (hT : T.val = win0_18.index t 1 * 256 + r.val) :
    merged (fun k => iblk m c 0 t (ix4 0 0 r k)) (fun k => iblk m c 1 t (ix4 0 0 r k)) (fun k => iblk m c 2 t (ix3 0 r k))
      (fun k => iblk m c 3 t (ix3 0 r k)) (fun k => iblk m c 4 t (ix3 0 r k)) (fun k => iblk m c 5 t (ix3 0 r k))
      (fun k => iblk m c 6 t (ix3 0 r k)) (fun k => iblk m c 7 t (ix3 0 r k)) (fun k => iblk m c 8 t (ix3 0 r k))
      (fun k => iblk m c 9 t (ix2 0 k)) (fun k => iblk m c 10 t (ix2 0 k)) (fun k => iblk m c 11 t (ix3 0 0 k))
      (fun k l => iblk m c 15 t (ix2 k l)) (fun k l => iblk m c 16 t (ix2 k l)) (fun k l => iblk m c 17 t (ix2 k l))
    = (args m c).token d T := by
  obtain ⟨d, hd'⟩ := d
  obtain ⟨T, hT'⟩ := T
  dsimp only at hd hT
  subst hd hT
  have hp := places18 t
  unfold MergeArgs.token
  dsimp only [args]
  refine merged_congr (fun k => ?_) (fun k => ?_) (fun k => ?_) (fun k => ?_) (fun k => ?_) (fun k => ?_) (fun k => ?_)
    (fun k => ?_) (fun k => ?_) (fun k => ?_) (fun k => ?_) (fun k => ?_) (fun k l => ?_) (fun k l => ?_) (fun k l => ?_)
  all_goals blk_point [iblk, V, places18 t]

/-- The first result of the call: the merged tokens. -/
theorem array18 (c : Dev nD) : (dats m 0 c).arrAt 18 cfg0.N = fun i => (args m c).token (i 0) (i 1) (i 2) := by
  refine (dats m 0 c).arrAt_eq_of_covers 18 _ (by decide +kernel) fun t hf y => ?_
  blk_simp
  rw [after0_18]
  frame_out
  unfold k0_pay7 k0_pay8
  frame_out
  refine (stored18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 15 t) (iblk m c 16 t) (iblk m c 17 t) (y 1) y rfl).trans ?_
  refine (congrFun (token_eq m c t (y 1) (((cfg0.win 18).blk t).view.emb y 0) (((cfg0.win 18).blk t).view.emb y 1) ?_ ?_) (y 2)).trans ?_
  · blk_simp
  · blk_simp
  · refine congrArg ((args m c).token (((cfg0.win 18).blk t).view.emb y 0) (((cfg0.win 18).blk t).view.emb y 1)) (Fin.ext ?_)
    have hp := places18 t
    blk_simp
    omega

/-- The second result of the call: the merged tokens, normalised and modulated. -/
theorem array19 (c : Dev nD) : (dats m 0 c).arrAt 19 cfg0.N = fun i => modulated ((args m c).token (i 0) (i 1))
      (fun k => m ((c : Thread nD τ).loc main_arg10) (ix1 k)) (fun k => m ((c : Thread nD τ).loc main_arg12) (ix3 (i 0) 0 k))
      (fun k => m ((c : Thread nD τ).loc main_arg11) (ix3 (i 0) 0 k)) (i 2) := by
  refine (dats m 0 c).arrAt_eq_of_covers 19 _ (by decide +kernel) fun t hf y => ?_
  blk_simp
  rw [after0_19]
  frame_out
  unfold k0_pay7 k0_pay8
  frame_out
  have hp := places18 t
  have hq := places19 t
  refine (stored19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 15 t) (iblk m c 16 t) (iblk m c 17 t) (iblk m c 12 t) (iblk m c 14 t) (iblk m c 13 t) (y 1) y rfl).trans ?_
  refine (congrFun (modulated_congr (token_eq m c t (y 1) (((cfg0.win 19).blk t).view.emb y 0)
    (((cfg0.win 19).blk t).view.emb y 1) ?_ ?_) (fun k => ?_) (fun k => ?_) (fun k => ?_)) (y 2)).trans
    (congrArg (modulated ((args m c).token (((cfg0.win 19).blk t).view.emb y 0) (((cfg0.win 19).blk t).view.emb y 1))
      (fun k => m ((c : Thread nD τ).loc main_arg10) (ix1 k))
      (fun k => m ((c : Thread nD τ).loc main_arg12) (ix3 (((cfg0.win 19).blk t).view.emb y 0) 0 k))
      (fun k => m ((c : Thread nD τ).loc main_arg11) (ix3 (((cfg0.win 19).blk t).view.emb y 0) 0 k))) (Fin.ext ?_))
  · blk_simp
    rw [hq]
  · blk_simp
    rw [hq]
  · blk_point [iblk, V, places18 t, hq]
  · blk_point [iblk, V, places18 t, hq]
  · blk_point [iblk, V, places18 t, hq]
  · blk_simp
    rw [hq]
    omega

/-- The claim: from equal arguments the two programs end with equal results. -/
theorem algebraic : Cert.algebraic_MergeIdeal_MergeRefIdeal (hMergeIdeal := Cert.MergeIdeal.Gen.facts) (hMergeRefIdeal := Cert.MergeRefIdeal.Gen.facts) := by
  intro m g m' g' _ hagree
  refine ⟨fun c => (dats m 0 c).arrAt 18 cfg0.N, fun c => (dats m 0 c).arrAt 19 cfg0.N, Value.run_blocks m g, ?_⟩
  refine (θ_run _ _ _).mono (fun r h c => ?_) (Cert.MergeRefIdeal.Value.run m' g')
  obtain ⟨h18, h19, h1⟩ := h c
  obtain ⟨a0, a1, a2, a3, a4, a5, a6, a7, a8, a9, a10, a11, a12, a13, a14, a15⟩ := hagree c
  refine ⟨h18.trans ?_, h19.trans ?_, h1⟩
  · rw [Cert.MergeRefIdeal.Read.val_main_v28_eq, a0, a1, a2, a3, a4, a5, a6, a7, a8, a9, a13, a14, a15]
    exact (Cert.MergeRefIdeal.Whole.reference18 (args m c)).trans (array18 m c).symm
  · rw [Cert.MergeRefIdeal.Read.val_main_v47_eq, a0, a1, a2, a3, a4, a5, a6, a7, a8, a9, a10, a11, a12, a13, a14, a15]
    exact (Cert.MergeRefIdeal.Whole.reference19 (args m c) _ _ _).trans (array19 m c).symm

end Cert.MergeIdeal.Whole
-- ==== Proof.lean ====
/-
  The certificate: for each call of the layer that is stated, the call, its idealization and its reference run to the
  end and leave their arguments unchanged, the idealization is the call read at the extended reals, and from equal
  arguments the idealized call and the reference end with equal results. The values are proved in the modules `…Value`.
-/
module

public import proofs.«01_k».proof.Defs
public import proofs.«01_k».proof.Proof.Gen.State
public import proofs.«01_k».proof.Proof.Gen.State.Frame
public import proofs.«01_k».proof.Proof.Gen.StateIdeal
public import proofs.«01_k».proof.Proof.Gen.StateIdeal.Frame
public import proofs.«01_k».proof.Proof.Gen.StateRefIdeal
public import proofs.«01_k».proof.Proof.Gen.StateRefIdeal.Run
public import proofs.«01_k».proof.Proof.StateValue
public import proofs.«01_k».proof.Proof.Gen.Hyena
public import proofs.«01_k».proof.Proof.Gen.Hyena.Frame
public import proofs.«01_k».proof.Proof.Gen.HyenaIdeal
public import proofs.«01_k».proof.Proof.Gen.HyenaIdeal.Frame
public import proofs.«01_k».proof.Proof.Gen.HyenaRefIdeal
public import proofs.«01_k».proof.Proof.Gen.HyenaRefIdeal.Run
public import proofs.«01_k».proof.Proof.HyenaValue
public import proofs.«01_k».proof.Proof.Gen.Qk
public import proofs.«01_k».proof.Proof.Gen.Qk.Frame
public import proofs.«01_k».proof.Proof.Gen.QkIdeal
public import proofs.«01_k».proof.Proof.Gen.QkIdeal.Frame
public import proofs.«01_k».proof.Proof.Gen.QkRefIdeal
public import proofs.«01_k».proof.Proof.Gen.QkRefIdeal.Run
public import proofs.«01_k».proof.Proof.QkValue
public import proofs.«01_k».proof.Proof.Gen.Gab
public import proofs.«01_k».proof.Proof.Gen.Gab.Frame
public import proofs.«01_k».proof.Proof.Gen.GabIdeal
public import proofs.«01_k».proof.Proof.Gen.GabIdeal.Frame
public import proofs.«01_k».proof.Proof.Gen.GabRefIdeal
public import proofs.«01_k».proof.Proof.Gen.GabRefIdeal.Run
public import proofs.«01_k».proof.Proof.GabValue
public import proofs.«01_k».proof.Proof.Gen.Og
public import proofs.«01_k».proof.Proof.Gen.Og.Frame
public import proofs.«01_k».proof.Proof.Gen.OgIdeal
public import proofs.«01_k».proof.Proof.Gen.OgIdeal.Frame
public import proofs.«01_k».proof.Proof.Gen.OgRefIdeal
public import proofs.«01_k».proof.Proof.Gen.OgRefIdeal.Run
public import proofs.«01_k».proof.Proof.OgValue
public import proofs.«01_k».proof.Proof.Gen.Val
public import proofs.«01_k».proof.Proof.Gen.Val.Frame
public import proofs.«01_k».proof.Proof.Gen.ValIdeal
public import proofs.«01_k».proof.Proof.Gen.ValIdeal.Frame
public import proofs.«01_k».proof.Proof.Gen.ValRefIdeal
public import proofs.«01_k».proof.Proof.Gen.ValRefIdeal.Run
public import proofs.«01_k».proof.Proof.ValValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.MergeValue
public import Idealize.ShloMosaic.Adequacy
public import Idealize.ShloMosaic.Init
public import Idealize.ShloMosaic.Lib.Quiescent

@[expose] public section

noncomputable section

namespace Cert.Proof

open Idealize.ShloMosaic Idealize.SL.Sem

/-- The reference `StateRefIdeal` ends with its arguments unchanged and no counter raised: it has no semaphore. -/
theorem quiescentState : Cert.quiescent_StateRefIdeal (hStateRefIdeal := Cert.StateRefIdeal.Gen.facts) := fun m g _ =>
  (θ_run Cert.StateRefIdeal.defs _ _).mono (fun r h => ⟨fun c => (h c).2.2.2, sem_eq_zero_of_no_sems (by decide) r.2⟩)
    (Cert.StateRefIdeal.Value.run m g)

/-- The reference `HyenaRefIdeal` ends with its arguments unchanged and no counter raised: it has no semaphore. -/
theorem quiescentHyena : Cert.quiescent_HyenaRefIdeal (hHyenaRefIdeal := Cert.HyenaRefIdeal.Gen.facts) := fun m g _ =>
  (θ_run Cert.HyenaRefIdeal.defs _ _).mono (fun r h => ⟨fun c => (h c).2.2, sem_eq_zero_of_no_sems (by decide) r.2⟩)
    (Cert.HyenaRefIdeal.Value.run m g)

/-- The reference `QkRefIdeal` ends with its arguments unchanged and no counter raised: it has no semaphore. -/
theorem quiescentQk : Cert.quiescent_QkRefIdeal (hQkRefIdeal := Cert.QkRefIdeal.Gen.facts) := fun m g _ =>
  (θ_run Cert.QkRefIdeal.defs _ _).mono (fun r h => ⟨fun c => (h c).2, sem_eq_zero_of_no_sems (by decide) r.2⟩)
    (Cert.QkRefIdeal.Value.run m g)

/-- The reference `GabRefIdeal` ends with its arguments unchanged and no counter raised: it has no semaphore. -/
theorem quiescentGab : Cert.quiescent_GabRefIdeal (hGabRefIdeal := Cert.GabRefIdeal.Gen.facts) := fun m g _ =>
  (θ_run Cert.GabRefIdeal.defs _ _).mono (fun r h => ⟨fun c => (h c).2, sem_eq_zero_of_no_sems (by decide) r.2⟩)
    (Cert.GabRefIdeal.Value.run m g)

/-- The reference `OgRefIdeal` ends with its arguments unchanged and no counter raised: it has no semaphore. -/
theorem quiescentOg : Cert.quiescent_OgRefIdeal (hOgRefIdeal := Cert.OgRefIdeal.Gen.facts) := fun m g _ =>
  (θ_run Cert.OgRefIdeal.defs _ _).mono (fun r h => ⟨fun c => (h c).2, sem_eq_zero_of_no_sems (by decide) r.2⟩)
    (Cert.OgRefIdeal.Value.run m g)

/-- The reference `ValRefIdeal` ends with its arguments unchanged and no counter raised: it has no semaphore. -/
theorem quiescentVal : Cert.quiescent_ValRefIdeal (hValRefIdeal := Cert.ValRefIdeal.Gen.facts) := fun m g _ =>
  (θ_run Cert.ValRefIdeal.defs _ _).mono (fun r h => ⟨fun c => (h c).2, sem_eq_zero_of_no_sems (by decide) r.2⟩)
    (Cert.ValRefIdeal.Value.run m g)

/-- The reference `MergeRefIdeal` ends with its arguments unchanged and no counter raised: it has no semaphore. -/
theorem quiescentMerge : Cert.quiescent_MergeRefIdeal (hMergeRefIdeal := Cert.MergeRefIdeal.Gen.facts) := fun m g _ =>
  (θ_run Cert.MergeRefIdeal.defs _ _).mono (fun r h => ⟨fun c => (h c).2.2, sem_eq_zero_of_no_sems (by decide) r.2⟩)
    (Cert.MergeRefIdeal.Value.run m g)

/-- All the claims. -/
theorem claim : Cert.Claim :=
  ⟨Cert.State.Gen.facts, Cert.StateIdeal.Gen.facts, Cert.StateRefIdeal.Gen.facts, Cert.Hyena.Gen.facts, Cert.HyenaIdeal.Gen.facts, Cert.HyenaRefIdeal.Gen.facts, Cert.Qk.Gen.facts, Cert.QkIdeal.Gen.facts, Cert.QkRefIdeal.Gen.facts, Cert.Gab.Gen.facts, Cert.GabIdeal.Gen.facts, Cert.GabRefIdeal.Gen.facts, Cert.Og.Gen.facts, Cert.OgIdeal.Gen.facts, Cert.OgRefIdeal.Gen.facts, Cert.Val.Gen.facts, Cert.ValIdeal.Gen.facts, Cert.ValRefIdeal.Gen.facts, Cert.Merge.Gen.facts, Cert.MergeIdeal.Gen.facts, Cert.MergeRefIdeal.Gen.facts,
    fun m g _ => Cert.State.Gen.frame m g, fun m g _ => Cert.StateIdeal.Gen.frame m g, quiescentState,
    fun m g _ => Cert.Hyena.Gen.frame m g, fun m g _ => Cert.HyenaIdeal.Gen.frame m g, quiescentHyena,
    fun m g _ => Cert.Qk.Gen.frame m g, fun m g _ => Cert.QkIdeal.Gen.frame m g, quiescentQk,
    fun m g _ => Cert.Gab.Gen.frame m g, fun m g _ => Cert.GabIdeal.Gen.frame m g, quiescentGab,
    fun m g _ => Cert.Og.Gen.frame m g, fun m g _ => Cert.OgIdeal.Gen.frame m g, quiescentOg,
    fun m g _ => Cert.Val.Gen.frame m g, fun m g _ => Cert.ValIdeal.Gen.frame m g, quiescentVal,
    fun m g _ => Cert.Merge.Gen.frame m g, fun m g _ => Cert.MergeIdeal.Gen.frame m g, quiescentMerge,
    trivial, Cert.StateIdeal.Whole.algebraic,
    trivial, Cert.HyenaIdeal.Whole.algebraic,
    trivial, Cert.QkIdeal.Whole.algebraic,
    trivial, Cert.GabIdeal.Whole.algebraic,
    trivial, Cert.OgIdeal.Whole.algebraic,
    trivial, Cert.ValIdeal.Whole.algebraic,
    trivial, Cert.MergeIdeal.Whole.algebraic⟩

end Cert.Proof

end
